-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S4096x512 : Shape := ⟨2, ![4096, 512]⟩
abbrev S2x4096x512 : Shape := ⟨3, ![2, 4096, 512]⟩
abbrev S15x256x512 : Shape := ⟨3, ![15, 256, 512]⟩
abbrev S2 : Shape := ⟨1, ![2]⟩
abbrev S16 : Shape := ⟨1, ![16]⟩
abbrev S_ : Shape := ⟨0, ![]⟩
abbrev S1 : Shape := ⟨1, ![1]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S2x4096x512, .f32⟩
  | .local _ .vmem, ⟨3, _⟩ => ⟨S15x256x512, .bf16⟩
  | .local _ .vmem, ⟨4, _⟩ => ⟨S15x256x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v4 : BitVec 32 := Scalar.subi v2 c8_i32
  let c16_i32_0 : BitVec 32 := 16#32
  let c0_i32 : BitVec 32 := 0#32
  let v5 : BitVec 1 := Scalar.cmpi .eq c16_i32_0 c0_i32
  let c1_i32_1 : BitVec 32 := 1#32
  let v6 : BitVec 32 := Scalar.select v5 c1_i32_1 c16_i32_0
  let v7 : BitVec 32 := Scalar.remsi v4 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_6 : BitVec 32 := 1#32
  let v15 : BitVec 32 := Scalar.muli v14 c1_i32_6
  let v16 : BitVec 32 := Scalar.addi c0_i32_7 v15
  v16.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v17 : BitVec 32 := Scalar.subi v2 c7_i32
  let c16_i32_8 : BitVec 32 := 16#32
  let c0_i32_9 : BitVec 32 := 0#32
  let v18 : BitVec 1 := Scalar.cmpi .eq c16_i32_8 c0_i32_9
  let c1_i32_10 : BitVec 32 := 1#32
  let v19 : BitVec 32 := Scalar.select v18 c1_i32_10 c16_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_15 : BitVec 32 := 1#32
  let v28 : BitVec 32 := Scalar.muli v27 c1_i32_15
  let v29 : BitVec 32 := Scalar.addi c0_i32_16 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v30 : BitVec 32 := Scalar.subi v2 c9_i32
  let c16_i32_17 : BitVec 32 := 16#32
  let c0_i32_18 : BitVec 32 := 0#32
  let v31 : BitVec 1 := Scalar.cmpi .eq c16_i32_17 c0_i32_18
  let c1_i32_19 : BitVec 32 := 1#32
  let v32 : BitVec 32 := Scalar.select v31 c1_i32_19 c16_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c1_i32_24 : BitVec 32 := 1#32
  let v41 : BitVec 32 := Scalar.muli v40 c1_i32_24
  let v42 : BitVec 32 := Scalar.addi c0_i32_25 v41
  v42.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v43 : BitVec 32 := Scalar.subi v2 c6_i32
  let c16_i32_26 : BitVec 32 := 16#32
  let c0_i32_27 : BitVec 32 := 0#32
  let v44 : BitVec 1 := Scalar.cmpi .eq c16_i32_26 c0_i32_27
  let c1_i32_28 : BitVec 32 := 1#32
  let v45 : BitVec 32 := Scalar.select v44 c1_i32_28 c16_i32_26
  let v46 : BitVec 32 := Scalar.remsi v43 v45
  let c0_i32_30 : BitVec 32 := 0#32
  let v48 : BitVec 1 := Scalar.cmpi .slt v46 c0_i32_30
  let c0_i32_31 : BitVec 32 := 0#32
  let v49 : BitVec 1 := Scalar.cmpi .slt v45 c0_i32_31
  let v50 : BitVec 1 := Scalar.xori v48 v49
  let c0_i32_29 : BitVec 32 := 0#32
  let v47 : BitVec 1 := Scalar.cmpi .ne v46 c0_i32_29
  let v51 : BitVec 1 := Scalar.andi v50 v47
  let v52 : BitVec 32 := Scalar.addi v46 v45
  let v53 : BitVec 32 := Scalar.select v51 v52 v46
  let c1_i32_33 : BitVec 32 := 1#32
  let v54 : BitVec 32 := Scalar.muli v53 c1_i32_33
  let v55 : BitVec 32 := Scalar.addi c0_i32_34 v54
  v55.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v56 : BitVec 32 := Scalar.subi v2 c10_i32
  let c16_i32_35 : BitVec 32 := 16#32
  let c0_i32_36 : BitVec 32 := 0#32
  let v57 : BitVec 1 := Scalar.cmpi .eq c16_i32_35 c0_i32_36
  let c1_i32_37 : BitVec 32 := 1#32
  let v58 : BitVec 32 := Scalar.select v57 c1_i32_37 c16_i32_35
  let v59 : BitVec 32 := Scalar.remsi v56 v58
  let c0_i32_39 : BitVec 32 := 0#32
  let v61 : BitVec 1 := Scalar.cmpi .slt v59 c0_i32_39
  let c0_i32_40 : BitVec 32 := 0#32
  let v62 : BitVec 1 := Scalar.cmpi .slt v58 c0_i32_40
  let v63 : BitVec 1 := Scalar.xori v61 v62
  let c0_i32_38 : BitVec 32 := 0#32
  let v60 : BitVec 1 := Scalar.cmpi .ne v59 c0_i32_38
  let v64 : BitVec 1 := Scalar.andi v63 v60
  let v65 : BitVec 32 := Scalar.addi v59 v58
  let v66 : BitVec 32 := Scalar.select v64 v65 v59
  let c1_i32_42 : BitVec 32 := 1#32
  let v67 : BitVec 32 := Scalar.muli v66 c1_i32_42
  let v68 : BitVec 32 := Scalar.addi c0_i32_43 v67
  v68.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v69 : BitVec 32 := Scalar.subi v2 c5_i32
  let c16_i32_44 : BitVec 32 := 16#32
  let c0_i32_45 : BitVec 32 := 0#32
  let v70 : BitVec 1 := Scalar.cmpi .eq c16_i32_44 c0_i32_45
  let c1_i32_46 : BitVec 32 := 1#32
  let v71 : BitVec 32 := Scalar.select v70 c1_i32_46 c16_i32_44
  let v72 : BitVec 32 := Scalar.remsi v69 v71
  let c0_i32_48 : BitVec 32 := 0#32
  let v74 : BitVec 1 := Scalar.cmpi .slt v72 c0_i32_48
  let c0_i32_49 : BitVec 32 := 0#32
  let v75 : BitVec 1 := Scalar.cmpi .slt v71 c0_i32_49
  let v76 : BitVec 1 := Scalar.xori v74 v75
  let c0_i32_47 : BitVec 32 := 0#32
  let v73 : BitVec 1 := Scalar.cmpi .ne v72 c0_i32_47
  let v77 : BitVec 1 := Scalar.andi v76 v73
  let v78 : BitVec 32 := Scalar.addi v72 v71
  let v79 : BitVec 32 := Scalar.select v77 v78 v72
  let c1_i32_51 : BitVec 32 := 1#32
  let v80 : BitVec 32 := Scalar.muli v79 c1_i32_51
  let v81 : BitVec 32 := Scalar.addi c0_i32_52 v80
  v81.toNat
def k0_dev7 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v82 : BitVec 32 := Scalar.subi v2 c11_i32
  let c16_i32_53 : BitVec 32 := 16#32
  let c0_i32_54 : BitVec 32 := 0#32
  let v83 : BitVec 1 := Scalar.cmpi .eq c16_i32_53 c0_i32_54
  let c1_i32_55 : BitVec 32 := 1#32
  let v84 : BitVec 32 := Scalar.select v83 c1_i32_55 c16_i32_53
  let v85 : BitVec 32 := Scalar.remsi v82 v84
  let c0_i32_57 : BitVec 32 := 0#32
  let v87 : BitVec 1 := Scalar.cmpi .slt v85 c0_i32_57
  let c0_i32_58 : BitVec 32 := 0#32
  let v88 : BitVec 1 := Scalar.cmpi .slt v84 c0_i32_58
  let v89 : BitVec 1 := Scalar.xori v87 v88
  let c0_i32_56 : BitVec 32 := 0#32
  let v86 : BitVec 1 := Scalar.cmpi .ne v85 c0_i32_56
  let v90 : BitVec 1 := Scalar.andi v89 v86
  let v91 : BitVec 32 := Scalar.addi v85 v84
  let v92 : BitVec 32 := Scalar.select v90 v91 v85
  let c1_i32_60 : BitVec 32 := 1#32
  let v93 : BitVec 32 := Scalar.muli v92 c1_i32_60
  let v94 : BitVec 32 := Scalar.addi c0_i32_61 v93
  v94.toNat
def k0_dev8 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v95 : BitVec 32 := Scalar.subi v2 c4_i32
  let c16_i32_62 : BitVec 32 := 16#32
  let c0_i32_63 : BitVec 32 := 0#32
  let v96 : BitVec 1 := Scalar.cmpi .eq c16_i32_62 c0_i32_63
  let c1_i32_64 : BitVec 32 := 1#32
  let v97 : BitVec 32 := Scalar.select v96 c1_i32_64 c16_i32_62
  let v98 : BitVec 32 := Scalar.remsi v95 v97
  let c0_i32_66 : BitVec 32 := 0#32
  let v100 : BitVec 1 := Scalar.cmpi .slt v98 c0_i32_66
  let c0_i32_67 : BitVec 32 := 0#32
  let v101 : BitVec 1 := Scalar.cmpi .slt v97 c0_i32_67
  let v102 : BitVec 1 := Scalar.xori v100 v101
  let c0_i32_65 : BitVec 32 := 0#32
  let v99 : BitVec 1 := Scalar.cmpi .ne v98 c0_i32_65
  let v103 : BitVec 1 := Scalar.andi v102 v99
  let v104 : BitVec 32 := Scalar.addi v98 v97
  let v105 : BitVec 32 := Scalar.select v103 v104 v98
  let c1_i32_69 : BitVec 32 := 1#32
  let v106 : BitVec 32 := Scalar.muli v105 c1_i32_69
  let v107 : BitVec 32 := Scalar.addi c0_i32_70 v106
  v107.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v108 : BitVec 32 := Scalar.subi v2 c12_i32
  let c16_i32_71 : BitVec 32 := 16#32
  let c0_i32_72 : BitVec 32 := 0#32
  let v109 : BitVec 1 := Scalar.cmpi .eq c16_i32_71 c0_i32_72
  let c1_i32_73 : BitVec 32 := 1#32
  let v110 : BitVec 32 := Scalar.select v109 c1_i32_73 c16_i32_71
  let v111 : BitVec 32 := Scalar.remsi v108 v110
  let c0_i32_75 : BitVec 32 := 0#32
  let v113 : BitVec 1 := Scalar.cmpi .slt v111 c0_i32_75
  let c0_i32_76 : BitVec 32 := 0#32
  let v114 : BitVec 1 := Scalar.cmpi .slt v110 c0_i32_76
  let v115 : BitVec 1 := Scalar.xori v113 v114
  let c0_i32_74 : BitVec 32 := 0#32
  let v112 : BitVec 1 := Scalar.cmpi .ne v111 c0_i32_74
  let v116 : BitVec 1 := Scalar.andi v115 v112
  let v117 : BitVec 32 := Scalar.addi v111 v110
  let v118 : BitVec 32 := Scalar.select v116 v117 v111
  let c1_i32_78 : BitVec 32 := 1#32
  let v119 : BitVec 32 := Scalar.muli v118 c1_i32_78
  let v120 : BitVec 32 := Scalar.addi c0_i32_79 v119
  v120.toNat
def k0_dev10 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v121 : BitVec 32 := Scalar.subi v2 c3_i32
  let c16_i32_80 : BitVec 32 := 16#32
  let c0_i32_81 : BitVec 32 := 0#32
  let v122 : BitVec 1 := Scalar.cmpi .eq c16_i32_80 c0_i32_81
  let c1_i32_82 : BitVec 32 := 1#32
  let v123 : BitVec 32 := Scalar.select v122 c1_i32_82 c16_i32_80
  let v124 : BitVec 32 := Scalar.remsi v121 v123
  let c0_i32_84 : BitVec 32 := 0#32
  let v126 : BitVec 1 := Scalar.cmpi .slt v124 c0_i32_84
  let c0_i32_85 : BitVec 32 := 0#32
  let v127 : BitVec 1 := Scalar.cmpi .slt v123 c0_i32_85
  let v128 : BitVec 1 := Scalar.xori v126 v127
  let c0_i32_83 : BitVec 32 := 0#32
  let v125 : BitVec 1 := Scalar.cmpi .ne v124 c0_i32_83
  let v129 : BitVec 1 := Scalar.andi v128 v125
  let v130 : BitVec 32 := Scalar.addi v124 v123
  let v131 : BitVec 32 := Scalar.select v129 v130 v124
  let c1_i32_87 : BitVec 32 := 1#32
  let v132 : BitVec 32 := Scalar.muli v131 c1_i32_87
  let v133 : BitVec 32 := Scalar.addi c0_i32_88 v132
  v133.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v134 : BitVec 32 := Scalar.subi v2 c13_i32
  let c16_i32_89 : BitVec 32 := 16#32
  let c0_i32_90 : BitVec 32 := 0#32
  let v135 : BitVec 1 := Scalar.cmpi .eq c16_i32_89 c0_i32_90
  let c1_i32_91 : BitVec 32 := 1#32
  let v136 : BitVec 32 := Scalar.select v135 c1_i32_91 c16_i32_89
  let v137 : BitVec 32 := Scalar.remsi v134 v136
  let c0_i32_93 : BitVec 32 := 0#32
  let v139 : BitVec 1 := Scalar.cmpi .slt v137 c0_i32_93
  let c0_i32_94 : BitVec 32 := 0#32
  let v140 : BitVec 1 := Scalar.cmpi .slt v136 c0_i32_94
  let v141 : BitVec 1 := Scalar.xori v139 v140
  let c0_i32_92 : BitVec 32 := 0#32
  let v138 : BitVec 1 := Scalar.cmpi .ne v137 c0_i32_92
  let v142 : BitVec 1 := Scalar.andi v141 v138
  let v143 : BitVec 32 := Scalar.addi v137 v136
  let v144 : BitVec 32 := Scalar.select v142 v143 v137
  let c1_i32_96 : BitVec 32 := 1#32
  let v145 : BitVec 32 := Scalar.muli v144 c1_i32_96
  let v146 : BitVec 32 := Scalar.addi c0_i32_97 v145
  v146.toNat
def k0_dev12 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v147 : BitVec 32 := Scalar.subi v2 c2_i32
  let c16_i32_98 : BitVec 32 := 16#32
  let c0_i32_99 : BitVec 32 := 0#32
  let v148 : BitVec 1 := Scalar.cmpi .eq c16_i32_98 c0_i32_99
  let c1_i32_100 : BitVec 32 := 1#32
  let v149 : BitVec 32 := Scalar.select v148 c1_i32_100 c16_i32_98
  let v150 : BitVec 32 := Scalar.remsi v147 v149
  let c0_i32_102 : BitVec 32 := 0#32
  let v152 : BitVec 1 := Scalar.cmpi .slt v150 c0_i32_102
  let c0_i32_103 : BitVec 32 := 0#32
  let v153 : BitVec 1 := Scalar.cmpi .slt v149 c0_i32_103
  let v154 : BitVec 1 := Scalar.xori v152 v153
  let c0_i32_101 : BitVec 32 := 0#32
  let v151 : BitVec 1 := Scalar.cmpi .ne v150 c0_i32_101
  let v155 : BitVec 1 := Scalar.andi v154 v151
  let v156 : BitVec 32 := Scalar.addi v150 v149
  let v157 : BitVec 32 := Scalar.select v155 v156 v150
  let c1_i32_105 : BitVec 32 := 1#32
  let v158 : BitVec 32 := Scalar.muli v157 c1_i32_105
  let v159 : BitVec 32 := Scalar.addi c0_i32_106 v158
  v159.toNat
def k0_dev13 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v160 : BitVec 32 := Scalar.subi v2 c14_i32
  let c16_i32_107 : BitVec 32 := 16#32
  let c0_i32_108 : BitVec 32 := 0#32
  let v161 : BitVec 1 := Scalar.cmpi .eq c16_i32_107 c0_i32_108
  let c1_i32_109 : BitVec 32 := 1#32
  let v162 : BitVec 32 := Scalar.select v161 c1_i32_109 c16_i32_107
  let v163 : BitVec 32 := Scalar.remsi v160 v162
  let c0_i32_111 : BitVec 32 := 0#32
  let v165 : BitVec 1 := Scalar.cmpi .slt v163 c0_i32_111
  let c0_i32_112 : BitVec 32 := 0#32
  let v166 : BitVec 1 := Scalar.cmpi .slt v162 c0_i32_112
  let v167 : BitVec 1 := Scalar.xori v165 v166
  let c0_i32_110 : BitVec 32 := 0#32
  let v164 : BitVec 1 := Scalar.cmpi .ne v163 c0_i32_110
  let v168 : BitVec 1 := Scalar.andi v167 v164
  let v169 : BitVec 32 := Scalar.addi v163 v162
  let v170 : BitVec 32 := Scalar.select v168 v169 v163
  let c1_i32_114 : BitVec 32 := 1#32
  let v171 : BitVec 32 := Scalar.muli v170 c1_i32_114
  let v172 : BitVec 32 := Scalar.addi c0_i32_115 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_116 : BitVec 32 := 1#32
  let v173 : BitVec 32 := Scalar.subi v2 c1_i32_116
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.subi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c8_i32_136 : BitVec 32) : Fin 2 → Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c8_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c512_i32 : BitVec 32 := 512#32
  let v210 : BitVec 32 := Scalar.muli v209 c512_i32
  ![0, v210.toNat]
def k0_dev16 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_194 : BitVec 32 := 8#32
  let v276 : BitVec 32 := Scalar.addi v2 c8_i32_194
  let c16_i32_195 : BitVec 32 := 16#32
  let c0_i32_196 : BitVec 32 := 0#32
  let v277 : BitVec 1 := Scalar.cmpi .eq c16_i32_195 c0_i32_196
  let c1_i32_197 : BitVec 32 := 1#32
  let v278 : BitVec 32 := Scalar.select v277 c1_i32_197 c16_i32_195
  let v279 : BitVec 32 := Scalar.remsi v276 v278
  let c0_i32_199 : BitVec 32 := 0#32
  let v281 : BitVec 1 := Scalar.cmpi .slt v279 c0_i32_199
  let c0_i32_200 : BitVec 32 := 0#32
  let v282 : BitVec 1 := Scalar.cmpi .slt v278 c0_i32_200
  let v283 : BitVec 1 := Scalar.xori v281 v282
  let c0_i32_198 : BitVec 32 := 0#32
  let v280 : BitVec 1 := Scalar.cmpi .ne v279 c0_i32_198
  let v284 : BitVec 1 := Scalar.andi v283 v280
  let v285 : BitVec 32 := Scalar.addi v279 v278
  let v286 : BitVec 32 := Scalar.select v284 v285 v279
  let c1_i32_205 : BitVec 32 := 1#32
  let v287 : BitVec 32 := Scalar.muli v286 c1_i32_205
  let v288 : BitVec 32 := Scalar.addi c0_i32_206 v287
  v288.toNat
def k0_dev17 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_245 : BitVec 32 := 7#32
  let v340 : BitVec 32 := Scalar.addi v2 c7_i32_245
  let c16_i32_246 : BitVec 32 := 16#32
  let c0_i32_247 : BitVec 32 := 0#32
  let v341 : BitVec 1 := Scalar.cmpi .eq c16_i32_246 c0_i32_247
  let c1_i32_248 : BitVec 32 := 1#32
  let v342 : BitVec 32 := Scalar.select v341 c1_i32_248 c16_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c1_i32_256 : BitVec 32 := 1#32
  let v351 : BitVec 32 := Scalar.muli v350 c1_i32_256
  let v352 : BitVec 32 := Scalar.addi c0_i32_257 v351
  v352.toNat
def k0_dev18 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_296 : BitVec 32 := 9#32
  let v404 : BitVec 32 := Scalar.addi v2 c9_i32_296
  let c16_i32_297 : BitVec 32 := 16#32
  let c0_i32_298 : BitVec 32 := 0#32
  let v405 : BitVec 1 := Scalar.cmpi .eq c16_i32_297 c0_i32_298
  let c1_i32_299 : BitVec 32 := 1#32
  let v406 : BitVec 32 := Scalar.select v405 c1_i32_299 c16_i32_297
  let v407 : BitVec 32 := Scalar.remsi v404 v406
  let c0_i32_301 : BitVec 32 := 0#32
  let v409 : BitVec 1 := Scalar.cmpi .slt v407 c0_i32_301
  let c0_i32_302 : BitVec 32 := 0#32
  let v410 : BitVec 1 := Scalar.cmpi .slt v406 c0_i32_302
  let v411 : BitVec 1 := Scalar.xori v409 v410
  let c0_i32_300 : BitVec 32 := 0#32
  let v408 : BitVec 1 := Scalar.cmpi .ne v407 c0_i32_300
  let v412 : BitVec 1 := Scalar.andi v411 v408
  let v413 : BitVec 32 := Scalar.addi v407 v406
  let v414 : BitVec 32 := Scalar.select v412 v413 v407
  let c1_i32_307 : BitVec 32 := 1#32
  let v415 : BitVec 32 := Scalar.muli v414 c1_i32_307
  let v416 : BitVec 32 := Scalar.addi c0_i32_308 v415
  v416.toNat
def k0_dev19 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_347 : BitVec 32 := 6#32
  let v468 : BitVec 32 := Scalar.addi v2 c6_i32_347
  let c16_i32_348 : BitVec 32 := 16#32
  let c0_i32_349 : BitVec 32 := 0#32
  let v469 : BitVec 1 := Scalar.cmpi .eq c16_i32_348 c0_i32_349
  let c1_i32_350 : BitVec 32 := 1#32
  let v470 : BitVec 32 := Scalar.select v469 c1_i32_350 c16_i32_348
  let v471 : BitVec 32 := Scalar.remsi v468 v470
  let c0_i32_352 : BitVec 32 := 0#32
  let v473 : BitVec 1 := Scalar.cmpi .slt v471 c0_i32_352
  let c0_i32_353 : BitVec 32 := 0#32
  let v474 : BitVec 1 := Scalar.cmpi .slt v470 c0_i32_353
  let v475 : BitVec 1 := Scalar.xori v473 v474
  let c0_i32_351 : BitVec 32 := 0#32
  let v472 : BitVec 1 := Scalar.cmpi .ne v471 c0_i32_351
  let v476 : BitVec 1 := Scalar.andi v475 v472
  let v477 : BitVec 32 := Scalar.addi v471 v470
  let v478 : BitVec 32 := Scalar.select v476 v477 v471
  let c1_i32_358 : BitVec 32 := 1#32
  let v479 : BitVec 32 := Scalar.muli v478 c1_i32_358
  let v480 : BitVec 32 := Scalar.addi c0_i32_359 v479
  v480.toNat
def k0_dev20 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_398 : BitVec 32 := 10#32
  let v532 : BitVec 32 := Scalar.addi v2 c10_i32_398
  let c16_i32_399 : BitVec 32 := 16#32
  let c0_i32_400 : BitVec 32 := 0#32
  let v533 : BitVec 1 := Scalar.cmpi .eq c16_i32_399 c0_i32_400
  let c1_i32_401 : BitVec 32 := 1#32
  let v534 : BitVec 32 := Scalar.select v533 c1_i32_401 c16_i32_399
  let v535 : BitVec 32 := Scalar.remsi v532 v534
  let c0_i32_403 : BitVec 32 := 0#32
  let v537 : BitVec 1 := Scalar.cmpi .slt v535 c0_i32_403
  let c0_i32_404 : BitVec 32 := 0#32
  let v538 : BitVec 1 := Scalar.cmpi .slt v534 c0_i32_404
  let v539 : BitVec 1 := Scalar.xori v537 v538
  let c0_i32_402 : BitVec 32 := 0#32
  let v536 : BitVec 1 := Scalar.cmpi .ne v535 c0_i32_402
  let v540 : BitVec 1 := Scalar.andi v539 v536
  let v541 : BitVec 32 := Scalar.addi v535 v534
  let v542 : BitVec 32 := Scalar.select v540 v541 v535
  let c1_i32_409 : BitVec 32 := 1#32
  let v543 : BitVec 32 := Scalar.muli v542 c1_i32_409
  let v544 : BitVec 32 := Scalar.addi c0_i32_410 v543
  v544.toNat
def k0_dev21 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_449 : BitVec 32 := 5#32
  let v596 : BitVec 32 := Scalar.addi v2 c5_i32_449
  let c16_i32_450 : BitVec 32 := 16#32
  let c0_i32_451 : BitVec 32 := 0#32
  let v597 : BitVec 1 := Scalar.cmpi .eq c16_i32_450 c0_i32_451
  let c1_i32_452 : BitVec 32 := 1#32
  let v598 : BitVec 32 := Scalar.select v597 c1_i32_452 c16_i32_450
  let v599 : BitVec 32 := Scalar.remsi v596 v598
  let c0_i32_454 : BitVec 32 := 0#32
  let v601 : BitVec 1 := Scalar.cmpi .slt v599 c0_i32_454
  let c0_i32_455 : BitVec 32 := 0#32
  let v602 : BitVec 1 := Scalar.cmpi .slt v598 c0_i32_455
  let v603 : BitVec 1 := Scalar.xori v601 v602
  let c0_i32_453 : BitVec 32 := 0#32
  let v600 : BitVec 1 := Scalar.cmpi .ne v599 c0_i32_453
  let v604 : BitVec 1 := Scalar.andi v603 v600
  let v605 : BitVec 32 := Scalar.addi v599 v598
  let v606 : BitVec 32 := Scalar.select v604 v605 v599
  let c1_i32_460 : BitVec 32 := 1#32
  let v607 : BitVec 32 := Scalar.muli v606 c1_i32_460
  let v608 : BitVec 32 := Scalar.addi c0_i32_461 v607
  v608.toNat
def k0_dev22 (d0 : Dev nD) : Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_500 : BitVec 32 := 11#32
  let v660 : BitVec 32 := Scalar.addi v2 c11_i32_500
  let c16_i32_501 : BitVec 32 := 16#32
  let c0_i32_502 : BitVec 32 := 0#32
  let v661 : BitVec 1 := Scalar.cmpi .eq c16_i32_501 c0_i32_502
  let c1_i32_503 : BitVec 32 := 1#32
  let v662 : BitVec 32 := Scalar.select v661 c1_i32_503 c16_i32_501
  let v663 : BitVec 32 := Scalar.remsi v660 v662
  let c0_i32_505 : BitVec 32 := 0#32
  let v665 : BitVec 1 := Scalar.cmpi .slt v663 c0_i32_505
  let c0_i32_506 : BitVec 32 := 0#32
  let v666 : BitVec 1 := Scalar.cmpi .slt v662 c0_i32_506
  let v667 : BitVec 1 := Scalar.xori v665 v666
  let c0_i32_504 : BitVec 32 := 0#32
  let v664 : BitVec 1 := Scalar.cmpi .ne v663 c0_i32_504
  let v668 : BitVec 1 := Scalar.andi v667 v664
  let v669 : BitVec 32 := Scalar.addi v663 v662
  let v670 : BitVec 32 := Scalar.select v668 v669 v663
  let c1_i32_511 : BitVec 32 := 1#32
  let v671 : BitVec 32 := Scalar.muli v670 c1_i32_511
  let v672 : BitVec 32 := Scalar.addi c0_i32_512 v671
  v672.toNat
def k0_dev23 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_551 : BitVec 32 := 4#32
  let v724 : BitVec 32 := Scalar.addi v2 c4_i32_551
  let c16_i32_552 : BitVec 32 := 16#32
  let c0_i32_553 : BitVec 32 := 0#32
  let v725 : BitVec 1 := Scalar.cmpi .eq c16_i32_552 c0_i32_553
  let c1_i32_554 : BitVec 32 := 1#32
  let v726 : BitVec 32 := Scalar.select v725 c1_i32_554 c16_i32_552
  let v727 : BitVec 32 := Scalar.remsi v724 v726
  let c0_i32_556 : BitVec 32 := 0#32
  let v729 : BitVec 1 := Scalar.cmpi .slt v727 c0_i32_556
  let c0_i32_557 : BitVec 32 := 0#32
  let v730 : BitVec 1 := Scalar.cmpi .slt v726 c0_i32_557
  let v731 : BitVec 1 := Scalar.xori v729 v730
  let c0_i32_555 : BitVec 32 := 0#32
  let v728 : BitVec 1 := Scalar.cmpi .ne v727 c0_i32_555
  let v732 : BitVec 1 := Scalar.andi v731 v728
  let v733 : BitVec 32 := Scalar.addi v727 v726
  let v734 : BitVec 32 := Scalar.select v732 v733 v727
  let c1_i32_562 : BitVec 32 := 1#32
  let v735 : BitVec 32 := Scalar.muli v734 c1_i32_562
  let v736 : BitVec 32 := Scalar.addi c0_i32_563 v735
  v736.toNat
def k0_dev24 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_602 : BitVec 32 := 12#32
  let v788 : BitVec 32 := Scalar.addi v2 c12_i32_602
  let c16_i32_603 : BitVec 32 := 16#32
  let c0_i32_604 : BitVec 32 := 0#32
  let v789 : BitVec 1 := Scalar.cmpi .eq c16_i32_603 c0_i32_604
  let c1_i32_605 : BitVec 32 := 1#32
  let v790 : BitVec 32 := Scalar.select v789 c1_i32_605 c16_i32_603
  let v791 : BitVec 32 := Scalar.remsi v788 v790
  let c0_i32_607 : BitVec 32 := 0#32
  let v793 : BitVec 1 := Scalar.cmpi .slt v791 c0_i32_607
  let c0_i32_608 : BitVec 32 := 0#32
  let v794 : BitVec 1 := Scalar.cmpi .slt v790 c0_i32_608
  let v795 : BitVec 1 := Scalar.xori v793 v794
  let c0_i32_606 : BitVec 32 := 0#32
  let v792 : BitVec 1 := Scalar.cmpi .ne v791 c0_i32_606
  let v796 : BitVec 1 := Scalar.andi v795 v792
  let v797 : BitVec 32 := Scalar.addi v791 v790
  let v798 : BitVec 32 := Scalar.select v796 v797 v791
  let c1_i32_613 : BitVec 32 := 1#32
  let v799 : BitVec 32 := Scalar.muli v798 c1_i32_613
  let v800 : BitVec 32 := Scalar.addi c0_i32_614 v799
  v800.toNat
def k0_dev25 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_653 : BitVec 32 := 3#32
  let v852 : BitVec 32 := Scalar.addi v2 c3_i32_653
  let c16_i32_654 : BitVec 32 := 16#32
  let c0_i32_655 : BitVec 32 := 0#32
  let v853 : BitVec 1 := Scalar.cmpi .eq c16_i32_654 c0_i32_655
  let c1_i32_656 : BitVec 32 := 1#32
  let v854 : BitVec 32 := Scalar.select v853 c1_i32_656 c16_i32_654
  let v855 : BitVec 32 := Scalar.remsi v852 v854
  let c0_i32_658 : BitVec 32 := 0#32
  let v857 : BitVec 1 := Scalar.cmpi .slt v855 c0_i32_658
  let c0_i32_659 : BitVec 32 := 0#32
  let v858 : BitVec 1 := Scalar.cmpi .slt v854 c0_i32_659
  let v859 : BitVec 1 := Scalar.xori v857 v858
  let c0_i32_657 : BitVec 32 := 0#32
  let v856 : BitVec 1 := Scalar.cmpi .ne v855 c0_i32_657
  let v860 : BitVec 1 := Scalar.andi v859 v856
  let v861 : BitVec 32 := Scalar.addi v855 v854
  let v862 : BitVec 32 := Scalar.select v860 v861 v855
  let c1_i32_664 : BitVec 32 := 1#32
  let v863 : BitVec 32 := Scalar.muli v862 c1_i32_664
  let v864 : BitVec 32 := Scalar.addi c0_i32_665 v863
  v864.toNat
def k0_dev26 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_704 : BitVec 32 := 13#32
  let v916 : BitVec 32 := Scalar.addi v2 c13_i32_704
  let c16_i32_705 : BitVec 32 := 16#32
  let c0_i32_706 : BitVec 32 := 0#32
  let v917 : BitVec 1 := Scalar.cmpi .eq c16_i32_705 c0_i32_706
  let c1_i32_707 : BitVec 32 := 1#32
  let v918 : BitVec 32 := Scalar.select v917 c1_i32_707 c16_i32_705
  let v919 : BitVec 32 := Scalar.remsi v916 v918
  let c0_i32_709 : BitVec 32 := 0#32
  let v921 : BitVec 1 := Scalar.cmpi .slt v919 c0_i32_709
  let c0_i32_710 : BitVec 32 := 0#32
  let v922 : BitVec 1 := Scalar.cmpi .slt v918 c0_i32_710
  let v923 : BitVec 1 := Scalar.xori v921 v922
  let c0_i32_708 : BitVec 32 := 0#32
  let v920 : BitVec 1 := Scalar.cmpi .ne v919 c0_i32_708
  let v924 : BitVec 1 := Scalar.andi v923 v920
  let v925 : BitVec 32 := Scalar.addi v919 v918
  let v926 : BitVec 32 := Scalar.select v924 v925 v919
  let c1_i32_715 : BitVec 32 := 1#32
  let v927 : BitVec 32 := Scalar.muli v926 c1_i32_715
  let v928 : BitVec 32 := Scalar.addi c0_i32_716 v927
  v928.toNat
def k0_dev27 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_755 : BitVec 32 := 2#32
  let v980 : BitVec 32 := Scalar.addi v2 c2_i32_755
  let c16_i32_756 : BitVec 32 := 16#32
  let c0_i32_757 : BitVec 32 := 0#32
  let v981 : BitVec 1 := Scalar.cmpi .eq c16_i32_756 c0_i32_757
  let c1_i32_758 : BitVec 32 := 1#32
  let v982 : BitVec 32 := Scalar.select v981 c1_i32_758 c16_i32_756
  let v983 : BitVec 32 := Scalar.remsi v980 v982
  let c0_i32_760 : BitVec 32 := 0#32
  let v985 : BitVec 1 := Scalar.cmpi .slt v983 c0_i32_760
  let c0_i32_761 : BitVec 32 := 0#32
  let v986 : BitVec 1 := Scalar.cmpi .slt v982 c0_i32_761
  let v987 : BitVec 1 := Scalar.xori v985 v986
  let c0_i32_759 : BitVec 32 := 0#32
  let v984 : BitVec 1 := Scalar.cmpi .ne v983 c0_i32_759
  let v988 : BitVec 1 := Scalar.andi v987 v984
  let v989 : BitVec 32 := Scalar.addi v983 v982
  let v990 : BitVec 32 := Scalar.select v988 v989 v983
  let c1_i32_766 : BitVec 32 := 1#32
  let v991 : BitVec 32 := Scalar.muli v990 c1_i32_766
  let v992 : BitVec 32 := Scalar.addi c0_i32_767 v991
  v992.toNat
def k0_dev28 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_806 : BitVec 32 := 14#32
  let v1044 : BitVec 32 := Scalar.addi v2 c14_i32_806
  let c16_i32_807 : BitVec 32 := 16#32
  let c0_i32_808 : BitVec 32 := 0#32
  let v1045 : BitVec 1 := Scalar.cmpi .eq c16_i32_807 c0_i32_808
  let c1_i32_809 : BitVec 32 := 1#32
  let v1046 : BitVec 32 := Scalar.select v1045 c1_i32_809 c16_i32_807
  let v1047 : BitVec 32 := Scalar.remsi v1044 v1046
  let c0_i32_811 : BitVec 32 := 0#32
  let v1049 : BitVec 1 := Scalar.cmpi .slt v1047 c0_i32_811
  let c0_i32_812 : BitVec 32 := 0#32
  let v1050 : BitVec 1 := Scalar.cmpi .slt v1046 c0_i32_812
  let v1051 : BitVec 1 := Scalar.xori v1049 v1050
  let c0_i32_810 : BitVec 32 := 0#32
  let v1048 : BitVec 1 := Scalar.cmpi .ne v1047 c0_i32_810
  let v1052 : BitVec 1 := Scalar.andi v1051 v1048
  let v1053 : BitVec 32 := Scalar.addi v1047 v1046
  let v1054 : BitVec 32 := Scalar.select v1052 v1053 v1047
  let c1_i32_817 : BitVec 32 := 1#32
  let v1055 : BitVec 32 := Scalar.muli v1054 c1_i32_817
  let v1056 : BitVec 32 := Scalar.addi c0_i32_818 v1055
  v1056.toNat
def k0_off2 (d0 : Dev nD) : Fin 2 → Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_844 : BitVec 32 := 512#32
  let v1091 : BitVec 32 := Scalar.muli v2 c512_i32_844
  ![0, v1091.toNat]
def k0_dev29 (d0 : Dev nD) : Nat :=
  let c0_i32_862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_850 : BitVec 32 := 1#32
  let v1097 : BitVec 32 := Scalar.addi v2 c1_i32_850
  let c16_i32_851 : BitVec 32 := 16#32
  let c0_i32_852 : BitVec 32 := 0#32
  let v1098 : BitVec 1 := Scalar.cmpi .eq c16_i32_851 c0_i32_852
  let c1_i32_853 : BitVec 32 := 1#32
  let v1099 : BitVec 32 := Scalar.select v1098 c1_i32_853 c16_i32_851
  let v1100 : BitVec 32 := Scalar.remsi v1097 v1099
  let c0_i32_855 : BitVec 32 := 0#32
  let v1102 : BitVec 1 := Scalar.cmpi .slt v1100 c0_i32_855
  let c0_i32_856 : BitVec 32 := 0#32
  let v1103 : BitVec 1 := Scalar.cmpi .slt v1099 c0_i32_856
  let v1104 : BitVec 1 := Scalar.xori v1102 v1103
  let c0_i32_854 : BitVec 32 := 0#32
  let v1101 : BitVec 1 := Scalar.cmpi .ne v1100 c0_i32_854
  let v1105 : BitVec 1 := Scalar.andi v1104 v1101
  let v1106 : BitVec 32 := Scalar.addi v1100 v1099
  let v1107 : BitVec 32 := Scalar.select v1105 v1106 v1100
  let c1_i32_861 : BitVec 32 := 1#32
  let v1108 : BitVec 32 := Scalar.muli v1107 c1_i32_861
  let v1109 : BitVec 32 := Scalar.addi c0_i32_862 v1108
  v1109.toNat
def k0_dev30 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_888 : BitVec 32 := 15#32
  let v1144 : BitVec 32 := Scalar.addi v2 c15_i32_888
  let c16_i32_889 : BitVec 32 := 16#32
  let c0_i32_890 : BitVec 32 := 0#32
  let v1145 : BitVec 1 := Scalar.cmpi .eq c16_i32_889 c0_i32_890
  let c1_i32_891 : BitVec 32 := 1#32
  let v1146 : BitVec 32 := Scalar.select v1145 c1_i32_891 c16_i32_889
  let v1147 : BitVec 32 := Scalar.remsi v1144 v1146
  let c0_i32_893 : BitVec 32 := 0#32
  let v1149 : BitVec 1 := Scalar.cmpi .slt v1147 c0_i32_893
  let c0_i32_894 : BitVec 32 := 0#32
  let v1150 : BitVec 1 := Scalar.cmpi .slt v1146 c0_i32_894
  let v1151 : BitVec 1 := Scalar.xori v1149 v1150
  let c0_i32_892 : BitVec 32 := 0#32
  let v1148 : BitVec 1 := Scalar.cmpi .ne v1147 c0_i32_892
  let v1152 : BitVec 1 := Scalar.andi v1151 v1148
  let v1153 : BitVec 32 := Scalar.addi v1147 v1146
  let v1154 : BitVec 32 := Scalar.select v1152 v1153 v1147
  let c1_i32_899 : BitVec 32 := 1#32
  let v1155 : BitVec 32 := Scalar.muli v1154 c1_i32_899
  let v1156 : BitVec 32 := Scalar.addi c0_i32_900 v1155
  v1156.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v1176 : BitVec 32 := Scalar.muli v2 c256_i32
  let v1177 : Index := Scalar.indexCast v1176
  let c0_917 : Index := 0#32
  ![v1177.toNat, 0]
def k0_off4 (d0 : Dev nD) (c8_i32_928 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1187 : BitVec 32 := Scalar.subi v2 c8_i32_928
  let c16_i32_929 : BitVec 32 := 16#32
  let c0_i32_930 : BitVec 32 := 0#32
  let v1188 : BitVec 1 := Scalar.cmpi .eq c16_i32_929 c0_i32_930
  let c1_i32_931 : BitVec 32 := 1#32
  let v1189 : BitVec 32 := Scalar.select v1188 c1_i32_931 c16_i32_929
  let v1190 : BitVec 32 := Scalar.remsi v1187 v1189
  let c0_i32_933 : BitVec 32 := 0#32
  let v1192 : BitVec 1 := Scalar.cmpi .slt v1190 c0_i32_933
  let c0_i32_934 : BitVec 32 := 0#32
  let v1193 : BitVec 1 := Scalar.cmpi .slt v1189 c0_i32_934
  let v1194 : BitVec 1 := Scalar.xori v1192 v1193
  let c0_i32_932 : BitVec 32 := 0#32
  let v1191 : BitVec 1 := Scalar.cmpi .ne v1190 c0_i32_932
  let v1195 : BitVec 1 := Scalar.andi v1194 v1191
  let v1196 : BitVec 32 := Scalar.addi v1190 v1189
  let v1197 : BitVec 32 := Scalar.select v1195 v1196 v1190
  let c256_i32_938 : BitVec 32 := 256#32
  let v1201 : BitVec 32 := Scalar.muli v1197 c256_i32_938
  let v1202 : Index := Scalar.indexCast v1201
  let c0_939 : Index := 0#32
  ![v1202.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealProg.lean ====
/-
# The kernel's body as loops over the step

The printed body is fifteen (or sixteen) copies of each phase. Here each phase is ONE program with the step as a variable,
and the printed body is the loops of these — by definitional unfolding. What follows this module proves each phase's step
once, at any step.
-/
module

public import proofs.«01_k».proof.Proof.Gen.KernelIdeal.Skeleton
public import proofs.«01_k».proof.Proof.Gen.KernelIdeal.Launch
public import Idealize.ShloMosaic.Lib.Pipeline.Regions
public import Idealize.ShloMosaic.Lib.Tactic

@[expose] public section

set_option maxRecDepth 16384

noncomputable section

namespace Cert.KernelIdeal

open Cert.KernelIdeal.Gen
open Idealize.ShloMosaic Idealize.ShloMosaic.TcCoe
open Idealize.SL.Sem

variable {F : FTy → Type} [FloatOps F]

/-- A program of the kernel's body. -/
abbrev BProg (F : FTy → Type) [FloatOps F] (α : Type) := Prog (TpuEff nD τ sig (Elt F) Λ₀ .tc) α

/-- The last `m` of `n` steps, in order. -/
def loopFrom {n : ℕ} (f : Fin n → BProg F PUnit) : (m : ℕ) → m ≤ n → BProg F PUnit
  | 0, _ => pure ⟨⟩
  | m + 1, h => f ⟨n - (m + 1), by omega⟩ >>= fun _ => loopFrom f m (by omega)

/-- All `n` steps, in order. -/
def loop {n : ℕ} (f : Fin n → BProg F PUnit) : BProg F PUnit := loopFrom f n le_rfl

/-! ## The steps' constants -/

/-- The distance sent over at a step. -/
def OFF : Fin 15 → ℕ := ![8, 7, 9, 6, 10, 5, 11, 4, 12, 3, 13, 2, 14, 1, 15]

/-- The distance as the word the kernel computes with. -/
def offw (t : Fin 15) : BitVec 32 := BitVec.ofNat 32 (OFF t)

/-- The device a step's entry signal goes to, as the kernel computes it. -/
def sigNat (t : Fin 15) : Dev nD → ℕ :=
  (![k0_dev1, k0_dev2, k0_dev3, k0_dev4, k0_dev5, k0_dev6, k0_dev7, k0_dev8, k0_dev9, k0_dev10, k0_dev11, k0_dev12,
    k0_dev13, k0_dev14, k0_dev15] : Fin 15 → Dev nD → ℕ) t

/-- The device a step's copy goes to, as the kernel computes it. -/
def dstNat (t : Fin 15) : Dev nD → ℕ :=
  (![k0_dev16, k0_dev17, k0_dev18, k0_dev19, k0_dev20, k0_dev21, k0_dev22, k0_dev23, k0_dev24, k0_dev25, k0_dev26,
    k0_dev27, k0_dev28, k0_dev29, k0_dev30] : Fin 15 → Dev nD → ℕ) t

/-- The device `k` after `d` on the ring. -/
def fwd (k : ℕ) (d : Dev nD) : Dev nD := ⟨(d.val + k) % 16, Nat.mod_lt _ (by decide)⟩
/-- The device `k` before `d` on the ring. -/
def bwd (k : ℕ) (d : Dev nD) : Dev nD := ⟨(d.val + (16 - k)) % 16, Nat.mod_lt _ (by decide)⟩

theorem sigNat_eq : ∀ t d, sigNat t d = (bwd (OFF t) d).val := by decide +kernel
theorem dstNat_eq : ∀ t d, dstNat t d = (fwd (OFF t) d).val := by decide +kernel

theorem sigNat_lt (t : Fin 15) (d : Dev nD) : sigNat t d < nD := by rw [sigNat_eq]; exact (bwd (OFF t) d).isLt
theorem dstNat_lt (t : Fin 15) (d : Dev nD) : dstNat t d < nD := by rw [dstNat_eq]; exact (fwd (OFF t) d).isLt

/-- Where the columns loaded at a step start. -/
def colOff (d : Dev nD) (t : Fin 16) : Fin 2 → ℕ :=
  if h : t.val < 15 then k0_off1 d (offw ⟨t.val, h⟩) else k0_off2 d

/-- The device whose columns are loaded at a step: the one the step's block goes to, oneself at the last. -/
def colDev (d : Dev nD) (t : Fin 16) : Dev nD := if h : t.val < 15 then fwd (OFF ⟨t.val, h⟩) d else d

theorem colOff_eq : ∀ d t, colOff d t = ![0, 512 * (colDev d t).val] := by decide +kernel

theorem colOff_inb (d : Dev nD) (t : Fin 16) : ∀ a, colOff d t a + S4096x512.size a ≤ S4096x8192.size a := by
  rw [colOff_eq]
  intro a
  fin_cases a
  · simp
  · have := (colDev d t).isLt; simp [nD] at this ⊢; omega

/-- Where the rows received at a step are put in the result. -/
def rowOff (d : Dev nD) (t : Fin 15) : Fin 2 → ℕ := k0_off4 d (offw t)

theorem rowOff_eq : ∀ d t, rowOff d t = ![256 * (bwd (OFF t) d).val, 0] := by decide +kernel

theorem rowOff_inb (d : Dev nD) (t : Fin 15) : ∀ a, rowOff d t a + S256x512.size a ≤ S4096x512.size a := by
  rw [rowOff_eq]
  intro a
  fin_cases a
  · have := (bwd (OFF t) d).isLt; simp [nD] at this ⊢; omega
  · simp

/-- Where this device's own rows are put in the result. -/
theorem ownOff_eq (d : Dev nD) : k0_off3 d = ![256 * d.val, 0] := k0_off3_eq d

/-! ## The slots -/

theorem slotInb (t : Fin 15) : ∀ a, (![t.val, 0, 0] : Fin 3 → ℕ) a + S1x256x512.size a ≤ S15x256x512.size a := by
  revert t; decide
theorem wslotInb (s : Fin 2) : ∀ a, (![s.val, 0, 0] : Fin 3 → ℕ) a + S1x4096x512.size a ≤ S2x4096x512.size a := by
  revert s; decide
theorem semInb (t : Fin 15) : ∀ a, (![t.val] : Fin 1 → ℕ) a + S1.size a ≤ S16.size a := by revert t; decide
theorem wsemInb (s : Fin 2) : ∀ a, (![s.val] : Fin 1 → ℕ) a + S1.size a ≤ S2.size a := by revert s; decide

/-- A slot of the buffers sent and received. -/
abbrev slotR (t : Fin 15) : Rect S15x256x512 := Rect.unit (s := S15x256x512) ![t.val, 0, 0] S1x256x512.size (slotInb t)
/-- A slot of the buffer of columns. -/
abbrev wslotR (s : Fin 2) : Rect S2x4096x512 := Rect.unit (s := S2x4096x512) ![s.val, 0, 0] S1x4096x512.size (wslotInb s)

theorem slotPacked : ∀ t : Fin 15, (slotR t).PackedRows (EltTy.packing .bf16) := by decide
theorem slotWords : ∀ t : Fin 15, (slotR t).WholeWords (EltTy.packing .bf16) := by decide

/-- The kernel's operands. -/
abbrev xB : Memref sig .tc .vmem S256x4096 .f32 := Memref.whole cc0_stg0_0
abbrev wB : Memref sig .tc .hbm S4096x8192 .f32 := Memref.whole main_arg1
abbrev oB : Memref sig .tc .vmem S4096x512 .f32 := Memref.whole cc0_stg1_0
abbrev lB : Memref sig .tc .vmem S2x4096x512 .f32 := Memref.whole cc0_scratch0
abbrev sB : Memref sig .tc .vmem S15x256x512 .bf16 := Memref.whole cc0_scratch1
abbrev rB : Memref sig .tc .vmem S15x256x512 .bf16 := Memref.whole cc0_scratch2

theorem sB_whole : sB.IsWhole := Memref.isWhole_whole _
theorem rB_whole : rB.IsWhole := Memref.isWhole_whole _

/-- The slot sent from, received into, and loaded into. -/
abbrev sSlot (t : Fin 15) : Memref sig .tc .vmem S256x512 .bf16 := (sB.slice (slotR t) (fun _ => rfl)).squeeze S256x512 squeezes_S1x256x512_S256x512
abbrev rSlot (t : Fin 15) : Memref sig .tc .vmem S256x512 .bf16 := (rB.slice (slotR t) (fun _ => rfl)).squeeze S256x512 squeezes_S1x256x512_S256x512
abbrev lSlot (s : Fin 2) : Memref sig .tc .vmem S4096x512 .f32 := (lB.slice (wslotR s) (fun _ => rfl)).squeeze S4096x512 squeezes_S1x4096x512_S4096x512
/-- The columns loaded at a step. -/
abbrev wCols (d : Dev nD) (t : Fin 16) : Memref sig .tc .hbm S4096x512 .f32 :=
  wB.slice (Rect.unit (s := S4096x8192) (colOff d t) S4096x512.size (colOff_inb d t)) (fun _ => rfl)

/-- The semaphores: the columns' loads, the copies sent, the copies received, the entry barrier. -/
abbrev lSem (s : Fin 2) : DmaSem sig := ((cc0_scratch3.slice (Rect.unit (s := S2) ![s.val] S1.size (wsemInb s))).squeeze S_ squeezes_S1_S_).sem
abbrev sSem (t : Fin 15) : DmaSem sig := ((cc0_scratch4.slice (Rect.unit (s := S16) ![t.val] S1.size (semInb t))).squeeze S_ squeezes_S1_S_).sem
abbrev rSem (t : Fin 15) : DmaSem sig := ((cc0_scratch5.slice (Rect.unit (s := S16) ![t.val] S1.size (semInb t))).squeeze S_ squeezes_S1_S_).sem
abbrev bSem : Sem sig := (SemArray.scalar (sig.barrier 0 rfl) : Sems sig S_).sem

/-- The slot a step's columns are loaded into. -/
abbrev par (t : Fin 16) : Fin 2 := ⟨t.val % 2, Nat.mod_lt _ (by decide)⟩

/-! ## The phases' steps -/

/-- A signal of the entry handshake. -/
def sigStep (d : Dev nD) (t : Fin 15) : BProg F PUnit := semSignalWord (⟨sigNat t d, sigNat_lt t d⟩ : Dev nD) bSem 1#32

/-- The load of a step's columns. -/
def loadStep (d : Dev nD) (t : Fin 16) : BProg F PUnit :=
  Prog.lift (.enqueueDma (wCols d t) (.here (lSlot (par t))) (.dma (lSem (par t))) (View.wordExact_bits rfl) ((View.wordExact_bits rfl).reshape _ _) ⟨Or.inl rfl, trivial⟩)

/-- The wait for a step's columns, then the two operands read. -/
def readStep (d : Dev nD) (t : Fin 16) : BProg F (Vec F S256x4096 .f32 × Vec F S1x4096x512 .f32) := do
  Prog.lift (.waitDma2 (lSem (par t)) (wCols d t) (lSlot (par t)) (View.wordExact_bits rfl) ((View.wordExact_bits rfl).reshape _ _))
  let x ← Prog.lift (.load xB (Rect.unit (s := S256x4096) ![0, 0] S256x4096.size inb_S256x4096_S256x4096_0_0).toLoadRect (View.loadsAt_vmem h_S256x4096))
  let w ← Prog.lift (.load lB (wslotR (par t)).toLoadRect (View.loadsAt_vmem h_S1x4096x512))
  pure (x, w)

/-- The product of a step's operands, rounded and put into the slot sent from. -/
def putStep (t : Fin 15) (x : Vec F S256x4096 .f32) (w : Vec F S1x4096x512 .f32) : BProg F PUnit := do
  let _ ← Prog.lift (.load sB (slotR t).toLoadRect (View.loadsAt_vmem h_S1x256x512))
  Prog.lift (.store sB (slotR t) (k0_pay29 x w) Finset.univ (View.stores_vmem h_S1x256x512 (sB_whole.storeExact_slice rfl _ (slotPacked t)) (fun _ => rfl)) (.inl rfl))

/-- A step's copy. -/
def copyStep (d : Dev nD) (t : Fin 15) : BProg F PUnit :=
  Prog.lift (.enqueueDma (sSlot t) (.remote (Dev.tc (⟨dstNat t d, dstNat_lt t d⟩ : Dev nD)) (rSlot t) (.dma (sSem t))) (.dma (rSem t)) ((sB_whole.wordExact_slice rfl _ (slotWords t)).reshape _ _) ((rB_whole.wordExact_slice rfl _ (slotWords t)).reshape _ _) ⟨⟨rfl, Or.inl rfl⟩, trivial⟩)

/-- A step of the sending phase that also starts the load two steps ahead. -/
def sendStep (d : Dev nD) (t : Fin 14) : BProg F PUnit := do
  let xw ← readStep d ⟨t.val, by omega⟩
  putStep ⟨t.val, by omega⟩ xw.1 xw.2
  loadStep d ⟨t.val + 2, by omega⟩
  copyStep d ⟨t.val, by omega⟩

/-- The last step of the sending phase, with no load left to start. -/
def sendLast (d : Dev nD) : BProg F PUnit := do
  let xw ← readStep d 14
  putStep 14 xw.1 xw.2
  copyStep d 14

/-- This device's own block. -/
def ownStep (d : Dev nD) : BProg F PUnit := do
  let xw ← readStep d 15
  let _ ← Prog.lift (.load oB (Rect.unit (s := S4096x512) (k0_off3 d) S256x512.size (k0_off3_inb d)).toLoadRect (View.loadsAt_vmem h_S256x512))
  Prog.lift (.store oB (Rect.unit (s := S4096x512) (k0_off3 d) S256x512.size (k0_off3_inb d)) (k0_pay30 xw.1 xw.2) Finset.univ (View.stores_vmem_bits_univ h_S256x512 rfl) (.inl rfl))

/-- A step of the receiving phase. -/
def recvStep (d : Dev nD) (t : Fin 15) : BProg F PUnit := do
  Prog.lift (.waitDma2 (rSem t) (sSlot t) (rSlot t) ((sB_whole.wordExact_slice rfl _ (slotWords t)).reshape _ _) ((rB_whole.wordExact_slice rfl _ (slotWords t)).reshape _ _))
  let b ← Prog.lift (.load rB (slotR t).toLoadRect (View.loadsAt_vmem h_S1x256x512))
  let _ ← Prog.lift (.load oB (Rect.unit (s := S4096x512) (rowOff d t) S256x512.size (rowOff_inb d t)).toLoadRect (View.loadsAt_vmem h_S256x512))
  Prog.lift (.store oB (Rect.unit (s := S4096x512) (rowOff d t) S256x512.size (rowOff_inb d t)) (k0_pay31 b) Finset.univ (View.stores_vmem_bits_univ h_S256x512 rfl) (.inl rfl))

/-- A step of the closing phase: the wait for a copy's source. -/
def sentStep (t : Fin 15) : BProg F PUnit :=
  Prog.lift (.waitDma2 (sSem t) (rSlot t) (sSlot t) ((rB_whole.wordExact_slice rfl _ (slotWords t)).reshape _ _) ((sB_whole.wordExact_slice rfl _ (slotWords t)).reshape _ _))

/-- The body as its phases. -/
def prog : BProg F PUnit :=
  Prog.lift .deviceId >>= fun d : Dev nD =>
  loop (sigStep d) >>= fun _ =>
  semWaitWord bSem 15#32 >>= fun _ =>
  loadStep d 0 >>= fun _ =>
  loadStep d 1 >>= fun _ =>
  loop (sendStep d) >>= fun _ =>
  sendLast d >>= fun _ =>
  ownStep d >>= fun _ =>
  loop (recvStep d) >>= fun _ =>
  loop (sentStep (F := F))

set_option maxHeartbeats 0 in
/-- The printed body is its phases. -/
theorem body_eq :
    cc0_body (F := F) xB (Memref.isWhole_whole _) wB (Memref.isWhole_whole _) oB (Memref.isWhole_whole _) lB (Memref.isWhole_whole _)
      sB (Memref.isWhole_whole _) rB (Memref.isWhole_whole _) cc0_scratch3 cc0_scratch4 cc0_scratch5 = prog := by
  chain_rfl

end Cert.KernelIdeal

end
-- ==== Proof.KernelIdealProtocol.lean ====
/-
# What the devices agree on

The contents that move, the cells the devices meet at and what each unit on a cell hands over, what each device owes at
launch, and the order in which cells may be waited for.

* The entry barrier of device `c` collects a unit from each of the fifteen devices that `c` sends to; that device's unit
  hands `c` the slot `c` will copy into.
* The receive cell of a step hands its owner that slot, filled with the block of its sender.
* The send cell of a step gives the sender its own slot back.
-/
module

public import proofs.«01_k».proof.Proof.KernelIdealProg
public import Idealize.ShloMosaic.Lib.Pipeline.Launch
public import Idealize.ShloMosaic.Lib.Pipeline.Kit
public import Idealize.ShloMosaic.Lib.Transfers
public import Idealize.ShloMosaic.Lib.ValueLayout

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the meeting cells' own resources sit. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- Where the local loads' counters sit. -/
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-! ## Steps done and steps to do -/

/-- The steps from `k` on. -/
def todo (n k : ℕ) : Finset (Fin n) := Finset.univ.filter fun t => k ≤ t.val
/-- The steps before `k`. -/
def done (n k : ℕ) : Finset (Fin n) := Finset.univ.filter fun t => t.val < k

theorem mem_todo {n k : ℕ} {t : Fin n} : t ∈ todo n k ↔ k ≤ t.val := by simp [todo]
theorem mem_done {n k : ℕ} {t : Fin n} : t ∈ done n k ↔ t.val < k := by simp [done]
theorem todo_zero (n : ℕ) : todo n 0 = Finset.univ := by ext; simp [todo]
theorem todo_end (n : ℕ) : todo n n = ∅ := by ext t; simp [todo]
theorem done_zero (n : ℕ) : done n 0 = ∅ := by ext t; simp [done]
theorem done_end (n : ℕ) : done n n = Finset.univ := by ext t; simp [done]
theorem todo_step {n k : ℕ} (h : k < n) : todo n k = insert ⟨k, h⟩ (todo n (k + 1)) := by
  ext t; simp only [mem_todo, Finset.mem_insert, Fin.ext_iff]; omega
theorem done_step {n k : ℕ} (h : k < n) : done n (k + 1) = insert ⟨k, h⟩ (done n k) := by
  ext t; simp only [mem_done, Finset.mem_insert, Fin.ext_iff]; omega
theorem notMem_todo {n k : ℕ} (h : k < n) : (⟨k, h⟩ : Fin n) ∉ todo n (k + 1) := by simp [todo]
theorem notMem_done {n k : ℕ} (h : k < n) : (⟨k, h⟩ : Fin n) ∉ done n k := by simp [done]

omit [FloatOps F] in
theorem todo_take {n k : ℕ} (h : k < n) (Φ : Fin n → sProp 𝕄) :
    bigSep (todo n k) Φ = iprop(Φ ⟨k, h⟩ ∗ bigSep (todo n (k + 1)) Φ) := by
  rw [todo_step h]; exact BI.bigSep_insert (notMem_todo h)
omit [FloatOps F] in
theorem done_put {n k : ℕ} (h : k < n) (Φ : Fin n → sProp 𝕄) :
    bigSep (done n (k + 1)) Φ = iprop(Φ ⟨k, h⟩ ∗ bigSep (done n k) Φ) := by
  rw [done_step h]; exact BI.bigSep_insert (notMem_done h)

/-- What is still owed at step `k` when step `t` owes `f t`. -/
def owedFrom (k : ℕ) (f : Fin 15 → CellTallies nD τ sig Unit) : CellTallies nD τ sig Unit := ∑ t ∈ todo 15 k, f t
theorem owedFrom_step {k : ℕ} (h : k < 15) (f : Fin 15 → CellTallies nD τ sig Unit) :
    owedFrom k f = owedFrom (k + 1) f + f ⟨k, h⟩ := by
  unfold owedFrom; rw [todo_step h, Finset.sum_insert (notMem_todo h), add_comm]
theorem owedFrom_end (f : Fin 15 → CellTallies nD τ sig Unit) : owedFrom 15 f = 0 := by
  unfold owedFrom; rw [todo_end, Finset.sum_empty]

/-! ## The ring -/

theorem fwd_bwd : ∀ (t : Fin 15) (c : Dev nD), fwd (OFF t) (bwd (OFF t) c) = c := by decide +kernel
theorem bwd_fwd : ∀ (t : Fin 15) (c : Dev nD), bwd (OFF t) (fwd (OFF t) c) = c := by decide +kernel
/-- A step's shift of the ring. -/
def shift (t : Fin 15) : Dev nD ≃ Dev nD := ⟨fwd (OFF t), bwd (OFF t), bwd_fwd t, fwd_bwd t⟩

/-! ## The cells -/

/-- A device's meeting cells: the barrier, a step's send cell, a step's receive cell. -/
abbrev CK : Type := Unit ⊕ (Fin 15 ⊕ Fin 15)
abbrev ckB : CK := .inl ()
abbrev ckS (t : Fin 15) : CK := .inr (.inl t)
abbrev ckR (t : Fin 15) : CK := .inr (.inr t)
/-- The semaphore of a meeting cell. -/
def csem : CK → SemLoc sig
  | .inl _ => .reg bSem
  | .inr (.inl t) => .dma (sSem t)
  | .inr (.inr t) => .dma (rSem t)
/-- The meeting cell of a semaphore. -/
def kindOf : SemLoc sig → Option CK
  | .reg _ => some ckB
  | .dma q => if h : 4 ≤ q.val ∧ q.val < 19 then some (ckS ⟨q.val - 4, by omega⟩)
    else if h : 20 ≤ q.val ∧ q.val < 35 then some (ckR ⟨q.val - 20, by omega⟩) else none

theorem kindOf_csem : ∀ k, kindOf (csem k) = some k := by decide
theorem kindOf_bar : kindOf (.reg bSem) = some ckB := rfl
theorem kindOf_send (t : Fin 15) : kindOf (.dma (sSem t)) = some (ckS t) := kindOf_csem (ckS t)
theorem kindOf_recv (t : Fin 15) : kindOf (.dma (rSem t)) = some (ckR t) := kindOf_csem (ckR t)
theorem kindOf_load : ∀ s : Fin 2, kindOf (.dma (lSem s)) = none := by decide

abbrev kcell (ck : Dev nD × CK) : GSem nD τ sig := ((ck.1 : Thread nD τ), csem ck.2)
abbrev barCell (c : Dev nD) : GSem nD τ sig := ((c : Thread nD τ), .reg bSem)
abbrev sendCell (t : Fin 15) (c : Dev nD) : GSem nD τ sig := ((c : Thread nD τ), .dma (sSem t))
abbrev recvCell (t : Fin 15) (c : Dev nD) : GSem nD τ sig := ((c : Thread nD τ), .dma (rSem t))

/-- The credit of a copied slot. -/
abbrev N : ℕ := (rSlot 0).view.dmaCredit
theorem N_recv (t : Fin 15) : (rSlot t).view.dmaCredit = N := rfl
theorem N_send (t : Fin 15) : (sSlot t).view.dmaCredit = N := rfl
theorem N_pos : 0 < N := View.dmaCredit_pos _ (by decide)

/-! ## The contents -/

/-- The device's rows of `x`. -/
def xstg (c : Dev nD) : (cc0_stg0_0 : Ref sig .tc).ty.Contents (Elt F) :=
  (win0_0.blk (0 : Fin 1)).view.read (Elt F) (m ((c : Thread nD τ).loc main_arg0))

theorem colInb (k : Dev nD) : ∀ a, (![0, 512 * k.val] : Fin 2 → ℕ) a + S4096x512.size a ≤ S4096x8192.size a := by
  intro a
  fin_cases a
  · simp
  · have := k.isLt; simp [nD] at this ⊢; omega

/-- The columns of `w` (as device `c` holds it) that belong to device `k`. -/
def wcol (c k : Dev nD) : Vec F S4096x512 .f32 :=
  (wB.slice (Rect.unit (s := S4096x8192) ![0, 512 * k.val] S4096x512.size (colInb k)) (fun _ => rfl)).view.read (Elt F)
    (m ((c : Thread nD τ).loc main_arg1))

omit [FloatOps F] in
/-- A step's columns are its receiver's. -/
theorem wCols_read (c : Dev nD) (t : Fin 16) :
    (wCols c t).view.read (Elt F) (m ((c : Thread nD τ).loc main_arg1)) = wcol m c (colDev c t) := by
  have h : ∀ (o o' : Fin 2 → ℕ) (e : o = o') (hi : ∀ a, o a + S4096x512.size a ≤ S4096x8192.size a)
      (hi' : ∀ a, o' a + S4096x512.size a ≤ S4096x8192.size a),
      (wB.slice (Rect.unit (s := S4096x8192) o S4096x512.size hi) (fun _ => rfl)).view.read (Elt F) (m ((c : Thread nD τ).loc main_arg1))
        = (wB.slice (Rect.unit (s := S4096x8192) o' S4096x512.size hi') (fun _ => rfl)).view.read (Elt F) (m ((c : Thread nD τ).loc main_arg1)) := by
    rintro o _ rfl _ _; rfl
  exact h _ _ (colOff_eq c t) _ _

/-- The columns as they are read from their slot. -/
def wld (c k : Dev nD) : Vec F S1x4096x512 .f32 := shapeCast S1x4096x512 (wcol m c k) rfl

/-- The block device `c` sends to device `k`. -/
def blk (c k : Dev nD) : Vec F S256x512 .bf16 := shapeCast S256x512 (k0_pay29 (xstg m c) (wld m c k)) rfl

/-- The rows of device `c`'s result that come from device `e`. -/
def rowsOf (c e : Dev nD) : Vec F S256x512 .f32 :=
  if e = c then k0_pay30 (xstg m c) (wld m c c) else k0_pay31 (shapeCast S1x256x512 (blk m e c) rfl)

/-- Device `c`'s result. -/
def outAt (c : Dev nD) : (cc0_stg1_0 : Ref sig .tc).ty.Contents (Elt F) :=
  fun i : S4096x512.Idx => rowsOf m c ⟨(i 0).val / 256, by have := (i 0).isLt; simp at this; simp [nD]; omega⟩
    (ValueIdx.ix2 (n0 := 256) (n1 := 512) ⟨(i 0).val % 256, Nat.mod_lt _ (by decide)⟩ (i 1))

/-! ## Pieces of memory -/

/-- A received slot of device `c` at some contents, a sent one, one of columns. -/
def rPts (c : Dev nD) (t : Fin 15) (f : Buf (Elt F) ((rSlot t).view.loc (c : Thread nD τ))) : sProp 𝕄 :=
  (rSlot t).view.loc (c : Thread nD τ) ↦[(rSlot t).view.set]{fullShare} f
def sPts (c : Dev nD) (t : Fin 15) (f : Buf (Elt F) ((sSlot t).view.loc (c : Thread nD τ))) : sProp 𝕄 :=
  (sSlot t).view.loc (c : Thread nD τ) ↦[(sSlot t).view.set]{fullShare} f
def lPts (c : Dev nD) (s : Fin 2) (f : Buf (Elt F) ((lSlot s).view.loc (c : Thread nD τ))) : sProp 𝕄 :=
  (lSlot s).view.loc (c : Thread nD τ) ↦[(lSlot s).view.set]{fullShare} f

omit [FloatOps F] in
instance rPts_storable (c : Dev nD) (t) (f) : BI.Storable (upEmb : UEmb _ 𝕄) (rPts (F := F) c t f) := by unfold rPts; infer_instance
omit [FloatOps F] in
instance sPts_storable (c : Dev nD) (t) (f) : BI.Storable (upEmb : UEmb _ 𝕄) (sPts (F := F) c t f) := by unfold sPts; infer_instance

/-! ## The schedule -/

/-- What the device that a step's copy goes to hands over at the barrier: the slot it goes into. -/
def barPay (c : Dev nD) (t : Fin 15) : sProp 𝕄 := iprop(∃ f, rPts (fwd (OFF t) c) t f)
/-- What a landed copy hands over: the slot, filled. -/
def recvPay (c : Dev nD) (t : Fin 15) : sProp 𝕄 :=
  iprop(∃ f, ⌜(rSlot t).view.read (Elt F) f = blk m (bwd (OFF t) c) c⌝ ∗ rPts c t f)
/-- What a copy's departure gives back: the slot it left. -/
def sendPay (c : Dev nD) (t : Fin 15) : sProp 𝕄 := iprop(∃ f, sPts c t f)

/-- One round: fifteen duties of one unit on a barrier, one duty of a slot's credit on a send or a receive cell. -/
def Rd : Rounds.Schedule (GSem nD τ sig) (Fin 15) 𝕄 where
  duties g r := if r = 0 ∧ g.1.2 = .tc then (match kindOf g.2 with
    | some (.inl _) => Finset.univ
    | some (.inr _) => {0}
    | none => ∅) else ∅
  unitless _ := False
  amount g _ _ := match kindOf g.2 with
    | some (.inl _) => 1
    | _ => N
  payload g _ d := match kindOf g.2 with
    | some (.inl _) => barPay g.1.1 d
    | some (.inr (.inl t)) => sendPay g.1.1 t
    | some (.inr (.inr t)) => recvPay m g.1.1 t
    | none => iprop(emp)
  amount_pos g _ _ _ := by
    split
    · exact Nat.one_pos
    · exact N_pos

instance Rd_payload_storable (g : GSem nD τ sig) (r : ℕ) (d : Fin 15) :
    BI.Storable (upEmb : UEmb _ 𝕄) ((Rd (F := F) m).payload g r d) := by
  unfold Rd barPay sendPay recvPay
  dsimp only
  split <;> infer_instance

section Sched
variable (c : Dev nD) (t : Fin 15)

theorem duties_bar : (Rd (F := F) m).duties (barCell c) 0 = Finset.univ := rfl
theorem duties_send : (Rd (F := F) m).duties (sendCell t c) 0 = {0} := by
  unfold Rd; dsimp only; rw [if_pos ⟨rfl, rfl⟩, kindOf_send]
theorem duties_recv : (Rd (F := F) m).duties (recvCell t c) 0 = {0} := by
  unfold Rd; dsimp only; rw [if_pos ⟨rfl, rfl⟩, kindOf_recv]
theorem duties_later (g : GSem nD τ sig) : ∀ r, 1 ≤ r → (Rd (F := F) m).duties g r = ∅ :=
  fun r hr => by unfold Rd; dsimp only; rw [if_neg fun h => by omega]

theorem amount_bar (d : Fin 15) : (Rd (F := F) m).amount (barCell c) 0 d = 1 := rfl
theorem amount_send (d : Fin 15) : (Rd (F := F) m).amount (sendCell t c) 0 d = N := by unfold Rd; dsimp only; rw [kindOf_send]
theorem amount_recv (d : Fin 15) : (Rd (F := F) m).amount (recvCell t c) 0 d = N := by unfold Rd; dsimp only; rw [kindOf_recv]

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell t c) 0 = N := by
  unfold Schedule.expect Schedule.amountOf; rw [duties_send, Finset.sum_singleton, amount_send]
theorem expect_recv : (Rd (F := F) m).expect (recvCell t c) 0 = N := by
  unfold Schedule.expect Schedule.amountOf; rw [duties_recv, Finset.sum_singleton, amount_recv]

theorem payload_bar (d : Fin 15) : (Rd (F := F) m).payload (barCell c) 0 d = barPay c d := rfl
theorem payload_send (d : Fin 15) : (Rd (F := F) m).payload (sendCell t c) 0 d = sendPay c t := by
  unfold Rd; dsimp only; rw [kindOf_send]
theorem payload_recv (d : Fin 15) : (Rd (F := F) m).payload (recvCell t c) 0 d = recvPay m c t := by
  unfold Rd; dsimp only; rw [kindOf_recv]

theorem rest_bar : bigSep ((Rd (F := F) m).duties (barCell c) 0 \ ∅) (fun d => (Rd (F := F) m).payload (barCell c) 0 d)
    = bigSep Finset.univ fun d => barPay c d := by
  rw [Finset.sdiff_empty, duties_bar]; rfl
theorem rest_send : bigSep ((Rd (F := F) m).duties (sendCell t c) 0 \ ∅) (fun d => (Rd (F := F) m).payload (sendCell t c) 0 d) = sendPay c t := by
  rw [Finset.sdiff_empty, duties_send, bigSep_singleton, payload_send]
theorem rest_recv : bigSep ((Rd (F := F) m).duties (recvCell t c) 0 \ ∅) (fun d => (Rd (F := F) m).payload (recvCell t c) 0 d) = recvPay m c t := by
  rw [Finset.sdiff_empty, duties_recv, bigSep_singleton, payload_recv]

end Sched

/-! ## What each device owes at launch; the levels -/

/-- The unit a step's entry signal pays, the credit a step's copy pays. -/
def owedBar (c : Dev nD) (t : Fin 15) : CellTallies nD τ sig Unit := tallyAt (barCell (bwd (OFF t) c)) () 1
def owedRecv (c : Dev nD) (t : Fin 15) : CellTallies nD τ sig Unit := tallyAt (recvCell t (fwd (OFF t) c)) () N
/-- What device `c` owes at launch. -/
def O₀ (c : Dev nD) : CellTallies nD τ sig Unit := owedFrom 0 (owedRecv c) + owedFrom 0 (owedBar c)

def L (g : GSem nD τ sig) : Finset Unit := if g.1.2 = .tc then {()} else ∅
/-- Barriers at 1, receive cells at 2, everything else at 0. -/
def lv (g : GSem nD τ sig) (_ : Unit) : ℕ := match kindOf g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

/-- Whatever a tally owes sits on a TensorCore's cell above level `k`. -/
def Above (k : ℕ) (O : CellTallies nD τ sig Unit) : Prop := ∀ g u, 0 < O g u → u ∈ L g ∧ k < lv g u

theorem Above.zero (k : ℕ) : Above k 0 := fun g u h => absurd h (Nat.lt_irrefl 0)
theorem Above.add {k : ℕ} {O O' : CellTallies nD τ sig Unit} (h : Above k O) (h' : Above k O') : Above k (O + O') := fun g u hp => by
  rw [Pi.add_apply, Finsupp.add_apply] at hp
  rcases Nat.eq_zero_or_pos (O g u) with h0 | h0
  · exact h' g u (by omega)
  · exact h g u h0
theorem Above.tally {k n : ℕ} {c : Dev nD} {sm : SemLoc sig} (h : k < lv ((c : Thread nD τ), sm) ()) :
    Above k (tallyAt ((c : Thread nD τ), sm) () n) := fun g u hp => by
  rw [tallyAt_apply] at hp
  by_cases e : g = ((c : Thread nD τ), sm) ∧ u = ()
  · rw [e.1, L_tc]; exact ⟨Finset.mem_singleton_self _, h⟩
  · rw [if_neg e] at hp; exact absurd hp (Nat.lt_irrefl 0)
theorem Above.owedFrom {k j : ℕ} {f : Fin 15 → CellTallies nD τ sig Unit} (h : ∀ t, Above k (f t)) : Above k (owedFrom j f) := by
  unfold Cert.KernelIdeal.owedFrom
  exact Finset.sum_induction f (Above k) (fun _ _ => Above.add) (Above.zero k) fun t _ => h t

theorem lv_bar (c : Dev nD) : lv (barCell c) () = 1 := rfl
theorem lv_recv (t : Fin 15) (c : Dev nD) : lv (recvCell t c) () = 2 := by unfold lv; rw [kindOf_recv]

theorem above_recv (c : Dev nD) (j : ℕ) : Above 1 (owedFrom j (owedRecv c)) :=
  .owedFrom fun t => .tally (by rw [lv_recv]; decide)
theorem above_recv' (c : Dev nD) (j : ℕ) : Above 0 (owedFrom j (owedRecv c)) :=
  .owedFrom fun t => .tally (by rw [lv_recv]; decide)
theorem above_O₀ (c : Dev nD) : Above 0 (O₀ c) :=
  (above_recv' c 0).add (.owedFrom fun t => .tally (by rw [lv_bar]; decide))

omit [FloatOps F] in
theorem mayWait_of (c : Dev nD) (sm : SemLoc sig) (k : ℕ) (hk : lv ((c : Thread nD τ), sm) () = k) {O : CellTallies nD τ sig Unit}
    (hO : Above k O) : (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => (hO g u hg).1)
    (fun p hp => by rw [Finset.mem_singleton.mp hp]; exact hk.le)
    (fun g u hg => (hO g u hg).2)

omit [FloatOps F] in
theorem mayWait_load (c : Dev nD) (s : Fin 2) (j : ℕ) :
    (levAts L lv : sProp 𝕄) ⊢ MayWait (c : Thread nD τ) (.dma (lSem s)) () (owedFrom j (owedRecv c)) :=
  mayWait_of c _ 0 (by unfold lv; rw [kindOf_load]) (above_recv' c j)
omit [FloatOps F] in
theorem mayWait_bar (c : Dev nD) :
    (levAts L lv : sProp 𝕄) ⊢ MayWait (c : Thread nD τ) (.reg bSem) () (owedFrom 0 (owedRecv c)) :=
  mayWait_of c _ 1 rfl (above_recv c 0)

/-! ## The records every device reads -/

/-- The cells' invariants, under the names `K`, and that every cell has reached its round. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (Rd m) (K ck) (kcell ck) := by
  unfold records
  exact sep_elim_left.trans (bigSep_elim (Φ := fun ck : Dev nD × CK => (cellInv ER (Rd m) (K ck) (kcell ck) : sProp 𝕄)) (Finset.mem_univ ck))
theorem reached_at (K : Dev nD × CK → ℕ) (ck : Dev nD × CK) : records m K ⊢ reached ER (kcell ck) 0 := by
  unfold records
  exact sep_elim_right.trans (bigSep_elim (Φ := fun ck : Dev nD × CK => (reached ER (kcell ck) 0 : sProp 𝕄)) (Finset.mem_univ ck))

end Cert.KernelIdeal

end
-- ==== Proof.KernelIdealSteps.lean ====
/-
# Each phase's step, proved once at any step

A phase is a loop; its step takes the phase's state at `k` to the state at `k + 1`. The states say which slots, tokens and
credits the device still holds, and what the slots and the result hold.
-/
module

public import proofs.«01_k».proof.Proof.KernelIdealProtocol

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A program run by device `c`. -/
abbrev Wp {α : Type} (c : Dev nD) (p : BProg F α) (Q : α → sProp 𝕄) : sProp 𝕄 :=
  wp frame (wpE (defs₀ (F := F)) 𝒱₀ (c : Thread nD τ) none) Set.univ p Q

theorem wp_loopFrom {n : ℕ} (c : Dev nD) (f : Fin n → BProg F PUnit) (Inv : ℕ → sProp 𝕄)
    (hs : ∀ k (h : k < n), Inv k ⊢ Wp c (f ⟨k, h⟩) fun _ => Inv (k + 1)) :
    ∀ (j : ℕ) (h : j ≤ n), Inv (n - j) ⊢ Wp c (loopFrom f j h) fun _ => Inv n
  | 0, _ => by
    unfold loopFrom Wp
    rw [Prog.pure_eq_ret, wp_ret]
    exact fupd_intro
  | j + 1, h => by
    unfold loopFrom Wp
    rw [wp_bind]
    refine (hs (n - (j + 1)) (by omega)).trans (wp_mono _ _ _ fun _ => ?_)
    rw [show n - (j + 1) + 1 = n - j by omega]
    exact wp_loopFrom c f Inv hs j _

/-- A loop takes its state from the first step to the last. -/
theorem wp_loop {n : ℕ} (c : Dev nD) (f : Fin n → BProg F PUnit) (Inv : ℕ → sProp 𝕄)
    (hs : ∀ k (h : k < n), Inv k ⊢ Wp c (f ⟨k, h⟩) fun _ => Inv (k + 1)) :
    Inv 0 ⊢ Wp c (loop f) fun _ => Inv n := by
  have h := wp_loopFrom c f Inv hs n le_rfl
  rwa [Nat.sub_self] at h

/-! ## Reading and writing the slots -/

section Slots
variable {sp : Space} {s s' : Shape} {e : EltTy} (v : View sig .tc sp s e)

omit [FloatOps F] in
theorem read_reshape (h : s'.numel = s.numel) (h' : s.ShapeCasts s') (f : v.ty.Contents (Elt F)) :
    (v.reshape s' h).read (Elt F) f = shapeCast s' (v.read (Elt F) f) h' := rfl

omit [FloatOps F] in
theorem read_of_reshape (h : s'.numel = s.numel) (h' : s'.ShapeCasts s) (f : v.ty.Contents (Elt F)) (w : s'.Idx → Elt F e)
    (hw : (v.reshape s' h).read (Elt F) f = w) : v.read (Elt F) f = shapeCast s w h' := by
  subst hw
  funext x
  show v.read (Elt F) f x = v.read (Elt F) f (Shape.reshapeEquiv h (Shape.reshapeEquiv h' x))
  rw [Shape.reshapeEquiv_reshapeEquiv, Shape.reshapeEquiv_self]

omit [FloatOps F] in
theorem read_reshape_write (h : s'.numel = s.numel) (h' : s.ShapeCasts s') (f : v.ty.Contents (Elt F)) (w : s.Idx → Elt F e) :
    (v.reshape s' h).read (Elt F) (v.write (Elt F) f w Finset.univ) = shapeCast s' w h' := by
  rw [read_reshape v h h', View.read_write_univ]

end Slots

theorem numel_l : S4096x512.numel = S1x4096x512.numel := rfl
theorem numel_s : S256x512.numel = S1x256x512.numel := rfl

omit [FloatOps F] in
theorem read_l (s : Fin 2) (f : (lSlot s).view.ty.Contents (Elt F)) (w : Vec F S4096x512 .f32)
    (hw : (lSlot s).view.read (Elt F) f = w) :
    (lB.access (wslotR s)).read (Elt F) f = (shapeCast S1x4096x512 w rfl : Vec F S1x4096x512 .f32) :=
  read_of_reshape (s := S1x4096x512) (s' := S4096x512) (lB.access (wslotR s)) numel_l numel_l f w hw
omit [FloatOps F] in
theorem read_r (t : Fin 15) (f : (rSlot t).view.ty.Contents (Elt F)) (w : Vec F S256x512 .bf16)
    (hw : (rSlot t).view.read (Elt F) f = w) :
    (rB.access (slotR t)).read (Elt F) f = (shapeCast S1x256x512 w rfl : Vec F S1x256x512 .bf16) :=
  read_of_reshape (s := S1x256x512) (s' := S256x512) (rB.access (slotR t)) numel_s numel_s f w hw
omit [FloatOps F] in
theorem read_s (t : Fin 15) (f : (sSlot t).view.ty.Contents (Elt F)) (w : Vec F S1x256x512 .bf16) :
    (sSlot t).view.read (Elt F) ((sB.access (slotR t)).write (Elt F) f w Finset.univ) = (shapeCast S256x512 w rfl : Vec F S256x512 .bf16) :=
  read_reshape_write (s := S1x256x512) (s' := S256x512) (sB.access (slotR t)) numel_s numel_s.symm f w

theorem rAccess_set (t : Fin 15) : (rB.access (slotR t)).set = (rSlot t).view.set := (View.set_reshape _ _).symm
theorem sAccess_set (t : Fin 15) : (sB.access (slotR t)).set = (sSlot t).view.set := (View.set_reshape _ _).symm
theorem lAccess_set (s : Fin 2) : (lB.access (wslotR s)).set = (lSlot s).view.set := (View.set_reshape _ _).symm

/-! ## The standing facts -/

/-- The records and the levels: what every step may read. -/
def ctx (K : Dev nD × CK → ℕ) : sProp 𝕄 := iprop(records m K ∗ levAts L lv)
instance ctx_persistent (K : Dev nD × CK → ℕ) : BI.Persistent (ctx m K) := by unfold ctx; infer_instance

/-- What device `c` owes, whatever it has waited for. -/
def owing (c : Dev nD) (O : CellTallies nD τ sig Unit) : sProp 𝕄 := iprop(∃ W, owes (c : Thread nD τ) O W)

variable (K : Dev nD × CK → ℕ)

/-! ## The entry handshake -/

/-- What a step's entry signal spends: its duty, and the slot it promises. -/
def sigTok (c : Dev nD) (t : Fin 15) : sProp 𝕄 :=
  iprop(dutyTok ER (barCell (bwd (OFF t) c)) 0 t ∗ ∃ f, rPts c t f)
def invSig (c : Dev nD) (k : ℕ) : sProp 𝕄 :=
  iprop(ctx m K ∗ owing c (owedFrom 0 (owedRecv c) + owedFrom k (owedBar c)) ∗ bigSep (todo 15 k) (sigTok c))

theorem wp_sigStep (c : Dev nD) (k : ℕ) (h : k < 15) :
    invSig m K c k ⊢ Wp c (sigStep (F := F) c ⟨k, h⟩) fun _ => invSig m K c (k + 1) := by
  unfold sigStep
  rw [show (⟨sigNat ⟨k, h⟩ c, sigNat_lt ⟨k, h⟩ c⟩ : Dev nD) = bwd (OFF ⟨k, h⟩) c from Fin.ext (by exact sigNat_eq ⟨k, h⟩ c)]
  simp only [semSignalWord, Prog.lift]
  unfold invSig ctx owing
  rw [todo_take h]
  unfold sigTok
  iintro ⟨⟨#HR, #HL⟩, ⟨%W, HO⟩, ⟨Htok, %f, Hr⟩, Hrest⟩
  iapply (Rounds.wp_signal 𝒱₀ ER (Rd m) (c : Thread nD τ) none (dst := (bwd (OFF ⟨k, h⟩) c : Thread nD τ))
      (κ := K (bwd (OFF ⟨k, h⟩) c, ckB)) (d := ⟨k, h⟩) (by rw [duties_bar]; exact Finset.mem_univ _)
      ((amount_bar m _ _).trans (by decide)) () (O₀ := owedFrom 0 (owedRecv c) + owedFrom k (owedBar c)) (owedFrom 0 (owedRecv c) + owedFrom (k + 1) (owedBar c))
      (by rw [owedFrom_step h, ← add_assoc]; rfl)) $$ [HO Htok Hr]
  · isplitr; · iapply (inv_at m K (bwd (OFF ⟨k, h⟩) c, ckB)); iexact HR
    isplitl [HO]; · iexact HO
    isplitl [Htok]; · iexact Htok
    isplitl [Hr]
    · rw [payload_bar]; unfold barPay; rw [fwd_bwd]; iexists f; iexact Hr
    iapply (reached_at m K (bwd (OFF ⟨k, h⟩) c, ckB)); iexact HR
  iintro HO
  rw [wp_ret]; imodintro
  isplitr
  · isplitr; · iexact HR
    iexact HL
  isplitl [HO]; · iexists W; iexact HO
  iexact Hrest

theorem wp_barWait (c : Dev nD) :
    iprop(ctx m K ∗ owing c (owedFrom 0 (owedRecv c)) ∗ cred (tallyAt (barCell c) () 15) ∗ atPos ER (barCell c) 0 ∅ 0)
      ⊢ Wp c (semWaitWord bSem 15#32 : BProg F PUnit) fun _ =>
        iprop(ctx m K ∗ owing c (owedFrom 0 (owedRecv c)) ∗ semVal (barCell c) 0 ∗ bigSep Finset.univ (barPay c)) := by
  simp only [semWaitWord, Prog.lift]
  unfold ctx owing
  iintro ⟨⟨#HR, #HL⟩, ⟨%W, HO⟩, Hc, Hat⟩
  iapply (Rounds.wp_wait_rest_token 𝒱₀ ER (Rd m) (c : Thread nD τ) none (κ := K (c, ckB))
      (wpE_semWait_eq 𝒱₀ (c : Thread nD τ) none Set.univ) (Set.mem_univ _) () (O := owedFrom 0 (owedRecv c)) (W := W) (R := 0) (m := 0) (T := ∅)
      (by rw [expect_bar]; decide)) $$ [Hc HO Hat]
  · isplitr; · iapply (inv_at m K (c, ckB)); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar m c)) $$ Hpay
  imod (Rounds.cell_close ER (Rd m) (Set.mem_univ (K (c, ckB))) (fun h => h) (R := 0 + 1) (duties_later m (barCell c))) $$ [Hat] with Hz
  · isplitr; · iapply (inv_at m K (c, ckB)); iexact HR
    iexact Hat
  rw [wp_ret]; imodintro
  isplitr
  · isplitr; · iexact HR
    iexact HL
  isplitl [HO]; · iexists _; iexact HO
  isplitl [Hz] <;> iassumption

/-! ## The loads of columns -/

/-- The half of `w` a slot's loads read. -/
def half (s : Fin 2) : PosShare TreeShare := if s = 0 then fullShare.left else fullShare.right
/-- The columns of `w` a slot's loads read from, whole. -/
def wHalf (c : Dev nD) (s : Fin 2) : sProp 𝕄 :=
  wB.view.loc (c : Thread nD τ) ↦[Finset.univ]{half s} m ((c : Thread nD τ).loc main_arg1)
/-- A slot of columns with no load in flight. -/
def lIdle (c : Dev nD) (s : Fin 2) : sProp 𝕄 :=
  iprop(wHalf m c s ∗ (∃ f, lPts c s f) ∗ semVal ((c : Thread nD τ), .dma (lSem s)) 0)

/-- The credit of a load of columns. -/
abbrev NL : ℕ := (lSlot 0).view.dmaCredit
theorem NL_eq (s : Fin 2) : (lSlot s).view.dmaCredit = NL := rfl
theorem NL_pos : 0 < NL := View.dmaCredit_pos _ (by decide)

/-- A step's load in flight. -/
def inFlight (c : Dev nD) (t : Fin 16) : sProp 𝕄 :=
  iprop((∃ fd : Buf (Elt F) ((lSlot (par t)).view.loc (c : Thread nD τ)), Transfers.Flight EC (c : Thread nD τ) (.dma (lSem (par t))) () NL
      iprop(((lSlot (par t)).view.loc (c : Thread nD τ) ↦[(lSlot (par t)).view.set]{fullShare}
          (lSlot (par t)).view.write (Elt F) fd (ReadAs.same.apply ((wCols c t).view.read (Elt F) (m ((c : Thread nD τ).loc main_arg1)))) Finset.univ)
        ∗ ((wCols c t).view.loc (c : Thread nD τ) ↦[(wCols c t).view.set]{half (par t)} m ((c : Thread nD τ).loc main_arg1))))
    ∗ (wB.view.loc (c : Thread nD τ) ↦[Finset.univ \ (wCols c t).view.set]{half (par t)} m ((c : Thread nD τ).loc main_arg1)))

theorem wp_loadStep (c : Dev nD) (t : Fin 16) : lIdle m c (par t) ⊢ Wp c (loadStep (F := F) c t) fun _ => inFlight m c t := by
  unfold loadStep
  simp only [Prog.lift]
  unfold lIdle wHalf lPts
  iintro ⟨Hw, ⟨%fd, Hl⟩, Hz⟩
  ihave Hw' := (pointsTo_split_subset (Finset.subset_univ (wCols c t).view.set)).1 $$ Hw
  icases Hw' with ⟨Hw, Hwr⟩
  iapply (Transfers.wp_dmaLocal EC 𝒱₀ (c : Thread nD τ) none () NL (show (lSlot (par t)).view.amount (.dma (lSem (par t))) = NL from rfl) NL_pos (Finset.Subset.refl _)) $$ [Hw Hl Hz]
  · isplitl [Hw]; · iexact Hw
    isplitl [Hl]; · iexact Hl
    iexact Hz
  iintro Hf
  rw [wp_ret]; imodintro
  unfold inFlight
  isplitl [Hf]
  · iexists fd; iexact Hf
  iexact Hwr

/-- The device's staged rows of `x`, read only. -/
def xPts (c : Dev nD) : sProp 𝕄 := ((c : Thread nD τ).loc cc0_stg0_0) ↦{fullShare} xstg m c

theorem zero2 : (![0, 0] : Fin 2 → Nat) = fun _ => 0 := funext fun a => by fin_cases a <;> rfl
omit [FloatOps F] in
theorem read_x (f : (cc0_stg0_0 : Ref sig .tc).ty.Contents (Elt F)) :
    xB.view.readAt (Elt F) (Rect.unit (s := S256x4096) ![0, 0] S256x4096.size inb_S256x4096_S256x4096_0_0).toLoadRect f = f :=
  Memref.readAt_unit_zero (Elt F) cc0_stg0_0 zero2 _ f

theorem wp_readStep (c : Dev nD) (t : Fin 16) (k : ℕ) :
    iprop(ctx m K ∗ owing c (owedFrom k (owedRecv c)) ∗ inFlight m c t ∗ xPts m c)
      ⊢ Wp c (readStep (F := F) c t) fun xw =>
        iprop(⌜xw = (xstg m c, wld m c (colDev c t))⌝ ∗ ctx m K ∗ owing c (owedFrom k (owedRecv c)) ∗ lIdle m c (par t) ∗ xPts m c) := by
  unfold readStep
  simp only [Prog.lift, Prog.bind_op, Prog.bind_ret, Prog.pure_eq_ret]
  unfold ctx owing inFlight xPts
  iintro ⟨⟨#HR, #HL⟩, ⟨%W, HO⟩, ⟨⟨%fd, Hf⟩, Hwr⟩, Hx⟩
  iapply (Transfers.wp_waitLocalO EC 𝒱₀ (c : Thread nD τ) none () (NL_eq (par t)) (O := owedFrom k (owedRecv c)) (W := W)) $$ [Hf HO]
  · isplitl [Hf]; · iexact Hf
    isplitl [HO]; · iexact HO
    iapply (mayWait_load c (par t) k); iexact HL
  iintro ⟨⟨Hl, Hw⟩, Hz, HO⟩
  iapply (wp_load 𝒱₀ (c : Thread nD τ) none Set.univ (m := xB) (Finset.subset_univ _)) $$ Hx; iintro Hx
  rw [read_x]
  iapply (wp_load_rect 𝒱₀ (c : Thread nD τ) none Set.univ (m := lB) (r := wslotR (par t)) (by rw [lAccess_set])) $$ Hl; iintro Hl
  rw [wp_ret]; imodintro
  isplitr
  · ipureintro
    refine Prod.ext rfl ?_
    dsimp only
    unfold wld
    rw [← wCols_read]
    exact read_l (par t) _ _ (View.read_write_univ _ _)
  isplitr
  · isplitr; · iexact HR
    iexact HL
  isplitl [HO]; · iexists _; iexact HO
  isplitr [Hx]
  · unfold lIdle wHalf lPts
    isplitl [Hw Hwr]
    · iapply (pointsTo_split_subset (Finset.subset_univ (wCols c t).view.set)).2
      isplitl [Hw]; · iexact Hw
      iexact Hwr
    isplitl [Hl]; · iexists _; iexact Hl
    iexact Hz
  iexact Hx

end Cert.KernelIdeal

end
-- ==== Proof.KernelIdealPhases.lean ====
/-
# The phases of sending, receiving and closing

The steps of the second half of the body, and what the result holds after each of them.
-/
module

public import proofs.«01_k».proof.Proof.KernelIdealSteps
public import Idealize.ShloMosaic.Lib.ReshapeSlab

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- A program and what follows it, a part of the state set aside meanwhile. -/
theorem wp_then {α β : Type} (c : Dev nD) {P Fr : sProp 𝕄} {p : BProg F α} {k : α → BProg F β} {R : α → sProp 𝕄} {Q : β → sProp 𝕄}
    (h : P ⊢ Wp c p R) (hk : ∀ a, iprop(R a ∗ Fr) ⊢ Wp c (k a) Q) : iprop(P ∗ Fr) ⊢ Wp c (p >>= k) Q := by
  unfold Wp
  rw [wp_bind]
  exact (sep_mono_left h).trans ((wp_frame_r _ _ _).trans (wp_mono _ _ _ hk))

/-- The same for the last program. -/
theorem wp_last {α : Type} (c : Dev nD) {P Fr : sProp 𝕄} {p : BProg F α} {R Q : α → sProp 𝕄}
    (h : P ⊢ Wp c p R) (hk : ∀ a, iprop(R a ∗ Fr) ⊢ Q a) : iprop(P ∗ Fr) ⊢ Wp c p Q :=
  (sep_mono_left h).trans ((wp_frame_r _ _ _).trans (wp_mono _ _ _ hk))

/-! ## Sending -/

/-- A slot filled with the block for device `k`. -/
def filled (c k : Dev nD) (t : Fin 15) : sProp 𝕄 := iprop(∃ f, ⌜(sSlot t).view.read (Elt F) f = blk m c k⌝ ∗ sPts c t f)

theorem wp_putStep (c k : Dev nD) (t : Fin 15) :
    iprop(∃ f, sPts c t f) ⊢ Wp c (putStep (F := F) t (xstg m c) (wld m c k)) fun _ => filled m c k t := by
  unfold putStep
  simp only [Prog.lift, Prog.bind_op, Prog.bind_ret, Prog.pure_eq_ret]
  unfold sPts
  iintro ⟨%f, Hs⟩
  iapply (wp_load_rect 𝒱₀ (c : Thread nD τ) none Set.univ (m := sB) (r := slotR t) (by rw [sAccess_set])) $$ Hs; iintro Hs
  iapply (wp_store 𝒱₀ (c : Thread nD τ) none Set.univ (m := sB) (r := slotR t) (Mk := Finset.univ)
    (((sB.access (slotR t)).setOn_subset_set _).trans (by rw [sAccess_set]))) $$ Hs; iintro Hs
  rw [wp_ret]; imodintro
  unfold filled sPts
  iexists ((sB.access (slotR t)).write (Elt F) f (k0_pay29 (xstg m c) (wld m c k)) Finset.univ)
  isplitr
  · ipureintro; exact read_s t _ _
  iexact Hs

/-- What a step's copy spends of the two ends: the slots and the duties. -/
def sendTok (c : Dev nD) (t : Fin 15) : sProp 𝕄 :=
  iprop((∃ f, sPts c t f) ∗ (∃ f, rPts (fwd (OFF t) c) t f)
    ∗ dutyTok ER (sendCell t c) 0 0 ∗ dutyTok ER (recvCell t (fwd (OFF t) c)) 0 0)
theorem sendTok_eq (c : Dev nD) (t : Fin 15) : (sendTok c t : sProp 𝕄) =
  iprop((∃ f, sPts c t f) ∗ (∃ f, rPts (fwd (OFF t) c) t f)
    ∗ dutyTok ER (sendCell t c) 0 0 ∗ dutyTok ER (recvCell t (fwd (OFF t) c)) 0 0) := rfl
/-- The credit a step's copy leaves for the closing wait. -/
def sendCred (c : Dev nD) (t : Fin 15) : sProp 𝕄 := cred (tallyAt (sendCell t c) () N)

/-- The copy's rule at this step's cells, addressed to `n`. -/
theorem wp_copy (c n : Dev nD) (t : Fin 15) (hn : n = fwd (OFF t) c)
    {hsc : (rSlot t : Memref sig (Dev.tc n : Thread nD τ).2.kind .vmem S256x512 .bf16).view.ref.isScScratch = false}
    {hsrc : (sSlot t).view.WordExact} {hdst : (rSlot t).view.WordExact}
    {hsem : DmaTarget.Typed .vmem (.dma (rSem t)) (.remote (Dev.tc n : Thread nD τ) (rSlot t) (.dma (sSem t)) hsc)}
    {α : Type} {Q : α → sProp 𝕄} {k : PUnit → Prog (TpuEff nD τ sig (Elt F) Λ₀ .tc) α}
    (fs : Buf (Elt F) ((sSlot t).view.loc (c : Thread nD τ))) (hfs : (sSlot t).view.read (Elt F) fs = blk m c (fwd (OFF t) c))
    (fd : Buf (Elt F) ((rSlot t).view.loc (fwd (OFF t) c : Thread nD τ))) (W : Waits sig Unit) :
    iprop(cellInv ER (Rd m) (K (c, ckS t)) (sendCell t c) ∗ cellInv ER (Rd m) (K (fwd (OFF t) c, ckR t)) (recvCell t (fwd (OFF t) c))
        ∗ sPts c t fs ∗ rPts (fwd (OFF t) c) t fd
        ∗ owes (c : Thread nD τ) (owedFrom t.val (owedRecv c)) W
        ∗ dutyTok ER (sendCell t c) 0 0 ∗ reached ER (sendCell t c) 0
        ∗ dutyTok ER (recvCell t (fwd (OFF t) c)) 0 0 ∗ reached ER (recvCell t (fwd (OFF t) c)) 0)
      ⊢ iprop(((cred (tallyAt (sendCell t c) () N) ∗ owes (c : Thread nD τ) (owedFrom (t.val + 1) (owedRecv c)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot t) (.remote (Dev.tc n : Thread nD τ) (rSlot t) (.dma (sSem t)) hsc) (.dma (rSem t)) hsrc hdst hsem) k) Q) := by
  subst hn
  unfold sPts rPts
  exact Rounds.wp_send_pointsTo 𝒱₀ ER (Rd m) (c : Thread nD τ) none (κ₁ := K (c, ckS t)) (κ₂ := K (fwd (OFF t) c, ckR t))
    (r₁ := 0) (r₂ := 0) (d₁ := 0) (d₂ := 0) (fd := fd)
    (by rw [duties_send]; exact Finset.mem_singleton_self _) (by rw [duties_recv]; exact Finset.mem_singleton_self _)
    () () N rfl (amount_send m c t 0) (amount_recv m (fwd (OFF t) c) t 0) (owedFrom (t.val + 1) (owedRecv c))
    (owedFrom_step t.isLt (owedRecv c)) (W := W)
    (by rw [payload_send]; unfold sendPay sPts; exact exists_intro (Φ := fun f => ((sSlot t).view.loc (c : Thread nD τ) ↦[(sSlot t).view.set]{fullShare} f : sProp 𝕄)) fs)
    (by
      rw [payload_recv]; unfold recvPay rPts
      iintro H
      iexists ((rSlot t).view.write (Elt F) fd ((sSlot t).view.read (Elt F) fs) Finset.univ)
      isplitr
      · ipureintro
        rw [bwd_fwd, ← hfs]
        exact View.read_write_univ _ _
      iexact H)

theorem wp_copyStep (c : Dev nD) (t : Fin 15) :
    iprop(ctx m K ∗ owing c (owedFrom t.val (owedRecv c)) ∗ filled m c (fwd (OFF t) c) t ∗ (∃ f, rPts (fwd (OFF t) c) t f)
        ∗ dutyTok ER (sendCell t c) 0 0 ∗ dutyTok ER (recvCell t (fwd (OFF t) c)) 0 0)
      ⊢ Wp c (copyStep (F := F) c t) fun _ => iprop(ctx m K ∗ owing c (owedFrom (t.val + 1) (owedRecv c)) ∗ sendCred c t) := by
  unfold copyStep
  simp only [Prog.lift]
  unfold ctx owing filled
  iintro ⟨⟨#HR, #HL⟩, ⟨%W, HO⟩, ⟨%fs, %hfs, Hs⟩, ⟨%fd, Hr⟩, Ht1, Ht2⟩
  iapply (wp_copy m K c _ t (Fin.ext (by exact dstNat_eq t c)) fs hfs fd W) $$ [HO Hs Hr Ht1 Ht2]
  · isplitr; · iapply (inv_at m K (c, ckS t)); iexact HR
    isplitr; · iapply (inv_at m K (fwd (OFF t) c, ckR t)); iexact HR
    isplitl [Hs]; · iexact Hs
    isplitl [Hr]; · iexact Hr
    isplitl [HO]; · iexact HO
    isplitl [Ht1]; · iexact Ht1
    isplitr; · iapply (reached_at m K (c, ckS t)); iexact HR
    isplitl [Ht2]; · iexact Ht2
    iapply (reached_at m K (fwd (OFF t) c, ckR t)); iexact HR
  iintro ⟨Hc, HO⟩
  rw [wp_ret]; imodintro
  isplitr
  · isplitr; · iexact HR
    iexact HL
  isplitl [HO]; · iexists W; iexact HO
  unfold sendCred; iexact Hc

/-- Step `k` among the sixteen. -/
abbrev stepIx (k : ℕ) : Fin 16 := ⟨k % 16, Nat.mod_lt _ (by decide)⟩
theorem stepIx_eq {k : ℕ} (h : k < 16) : (⟨k, h⟩ : Fin 16) = stepIx k := Fin.ext (Nat.mod_eq_of_lt h).symm
theorem par_two {k : ℕ} (h : k + 2 < 16) : par (stepIx (k + 2)) = par (stepIx k) := by
  apply Fin.ext; simp only [par, stepIx]; omega
theorem colDev_step (c : Dev nD) {k : ℕ} (h : k < 15) : colDev c (stepIx k) = fwd (OFF ⟨k, h⟩) c := by
  rw [← stepIx_eq (by omega : k < 16)]; unfold colDev; rw [dif_pos h]

/-- The state of the sending phase before step `k`. -/
def invSend (c : Dev nD) (k : ℕ) : sProp 𝕄 :=
  iprop(ctx m K ∗ owing c (owedFrom k (owedRecv c)) ∗ inFlight m c (stepIx k) ∗ inFlight m c (stepIx (k + 1)) ∗ xPts m c
    ∗ bigSep (todo 15 k) (sendTok c) ∗ bigSep (done 15 k) (sendCred c))

/-- A wait for columns, the product, and its copy: the part every sending step has. -/
theorem wp_readPut (c : Dev nD) (k : ℕ) (h : k < 15) :
    iprop(ctx m K ∗ owing c (owedFrom k (owedRecv c)) ∗ inFlight m c (stepIx k) ∗ xPts m c ∗ ∃ f, sPts c ⟨k, h⟩ f)
      ⊢ Wp c (readStep (F := F) c ⟨k, by omega⟩ >>= fun xw => putStep ⟨k, h⟩ xw.1 xw.2) fun _ =>
        iprop(ctx m K ∗ owing c (owedFrom k (owedRecv c)) ∗ lIdle m c (par (stepIx k)) ∗ xPts m c ∗ filled m c (fwd (OFF ⟨k, h⟩) c) ⟨k, h⟩) := by
  rw [stepIx_eq (by omega : k < 16)]
  unfold Wp; rw [wp_bind]
  iintro ⟨Hctx, HO, Hf, Hx, Hs⟩
  iapply wp_wand $$ [Hctx HO Hf Hx]
  · iapply (wp_readStep m K c (stepIx k) k)
    isplitl [Hctx]; · iexact Hctx
    isplitl [HO]; · iexact HO
    isplitl [Hf] <;> iassumption
  iintro %xw ⟨%hxw, Hctx, HO, Hl, Hx⟩
  subst hxw
  iapply wp_wand $$ [Hs]
  · iapply (wp_putStep m c (colDev c (stepIx k)) ⟨k, h⟩); iexact Hs
  iintro %u Hs
  rw [colDev_step c h]
  isplitl [Hctx]; · iexact Hctx
  isplitl [HO]; · iexact HO
  isplitl [Hl]; · iexact Hl
  isplitl [Hx] <;> iassumption

theorem wp_sendStep (c : Dev nD) (k : ℕ) (h : k < 14) :
    invSend m K c k ⊢ Wp c (sendStep (F := F) c ⟨k, h⟩) fun _ => invSend m K c (k + 1) := by
  have hk : k < 15 := by omega
  have hk' : k < 16 := by omega
  have e : sendStep (F := F) c ⟨k, h⟩ = ((readStep (F := F) c ⟨k, hk'⟩ >>= fun xw => putStep ⟨k, hk⟩ xw.1 xw.2) >>= fun _ =>
      loadStep c ⟨k + 2, by omega⟩ >>= fun _ => copyStep c ⟨k, hk⟩) := by
    unfold sendStep; rw [Prog.bind_assoc]
  rw [e, stepIx_eq (by omega : k + 2 < 16)]
  unfold invSend
  rw [todo_take (by omega : k < 15), done_put (by omega : k < 15), sendTok_eq c ⟨k, hk⟩]
  refine BIBase.Entails.trans ?_ (wp_then c (wp_readPut m K c k (by omega)) (Fr := iprop(inFlight m c (stepIx (k + 1))
    ∗ (∃ f, rPts (fwd (OFF ⟨k, hk⟩) c) ⟨k, hk⟩ f)
    ∗ (dutyTok ER (sendCell ⟨k, hk⟩ c) 0 0 ∗ dutyTok ER (recvCell ⟨k, hk⟩ (fwd (OFF ⟨k, hk⟩) c)) 0 0)
    ∗ bigSep (todo 15 (k + 1)) (sendTok c) ∗ bigSep (done 15 k) (sendCred c))) fun _ => ?_)
  · iintro ⟨Hctx, HO, Hf, Hf', Hx, ⟨⟨Hs, Hr, Ht1, Ht2⟩, Htodo⟩, Hdone⟩
    isplitl [Hctx HO Hf Hx Hs]
    · isplitl [Hctx]; · iexact Hctx
      isplitl [HO]; · iexact HO
      isplitl [Hf]; · iexact Hf
      isplitl [Hx] <;> iassumption
    isplitl [Hf']; · iexact Hf'
    isplitl [Hr]; · iexact Hr
    isplitl [Ht1 Ht2]
    · isplitl [Ht1] <;> iassumption
    isplitl [Htodo] <;> iassumption
  refine BIBase.Entails.trans ?_ (wp_then c (wp_loadStep m c (stepIx (k + 2))) (Fr := iprop((ctx m K ∗ owing c (owedFrom k (owedRecv c))
      ∗ filled m c (fwd (OFF ⟨k, hk⟩) c) ⟨k, hk⟩ ∗ (∃ f, rPts (fwd (OFF ⟨k, hk⟩) c) ⟨k, hk⟩ f)
      ∗ dutyTok ER (sendCell ⟨k, hk⟩ c) 0 0 ∗ dutyTok ER (recvCell ⟨k, hk⟩ (fwd (OFF ⟨k, hk⟩) c)) 0 0)
    ∗ inFlight m c (stepIx (k + 1)) ∗ xPts m c ∗ bigSep (todo 15 (k + 1)) (sendTok c) ∗ bigSep (done 15 k) (sendCred c))) fun _ => ?_)
  · rw [par_two (by omega)]
    iintro ⟨⟨Hctx, HO, Hl, Hx, Hs⟩, Hf', Hr, ⟨Ht1, Ht2⟩, Htodo, Hdone⟩
    isplitl [Hl]; · iexact Hl
    isplitl [Hctx HO Hs Hr Ht1 Ht2]
    · isplitl [Hctx]; · iexact Hctx
      isplitl [HO]; · iexact HO
      isplitl [Hs]; · iexact Hs
      isplitl [Hr]; · iexact Hr
      isplitl [Ht1] <;> iassumption
    isplitl [Hf']; · iexact Hf'
    isplitl [Hx]; · iexact Hx
    isplitl [Htodo] <;> iassumption
  refine BIBase.Entails.trans ?_ (wp_last c (wp_copyStep m K c ⟨k, hk⟩) (Fr := iprop(inFlight m c (stepIx (k + 2))
    ∗ inFlight m c (stepIx (k + 1)) ∗ xPts m c ∗ bigSep (todo 15 (k + 1)) (sendTok c) ∗ bigSep (done 15 k) (sendCred c))) fun _ => ?_)
  · iintro ⟨Hf, Hc, Hrest⟩
    isplitl [Hc]; · iexact Hc
    isplitl [Hf] <;> iassumption
  · iintro ⟨⟨Hctx, HO, Hc⟩, Hf, Hf', Hx, Htodo, Hdone⟩
    isplitl [Hctx]; · iexact Hctx
    isplitl [HO]; · iexact HO
    isplitl [Hf']; · iexact Hf'
    isplitl [Hf]; · iexact Hf
    isplitl [Hx]; · iexact Hx
    isplitl [Htodo]; · iexact Htodo
    isplitl [Hc] <;> iassumption

theorem wp_sendLast (c : Dev nD) :
    invSend m K c 14 ⊢ Wp c (sendLast (F := F) c) fun _ =>
      iprop(ctx m K ∗ owing c 0 ∗ lIdle m c 0 ∗ inFlight m c 15 ∗ xPts m c ∗ bigSep Finset.univ (sendCred (F := F) c)) := by
  have h14 : 14 < 15 := by omega
  have h14' : 14 < 16 := by omega
  have e : sendLast (F := F) c = ((readStep (F := F) c ⟨14, h14'⟩ >>= fun xw => putStep ⟨14, h14⟩ xw.1 xw.2) >>= fun _ =>
      copyStep c ⟨14, h14⟩) := by
    unfold sendLast; rw [Prog.bind_assoc]; rfl
  rw [e]
  unfold invSend
  rw [todo_take (by omega : 14 < 15), ← done_end, done_put (by omega : 14 < 15), sendTok_eq c ⟨14, h14⟩]
  refine BIBase.Entails.trans ?_ (wp_then c (wp_readPut m K c 14 (by omega)) (Fr := iprop(inFlight m c 15
    ∗ (∃ f, rPts (fwd (OFF ⟨14, h14⟩) c) ⟨14, h14⟩ f)
    ∗ (dutyTok ER (sendCell ⟨14, h14⟩ c) 0 0 ∗ dutyTok ER (recvCell ⟨14, h14⟩ (fwd (OFF ⟨14, h14⟩) c)) 0 0)
    ∗ bigSep (done 15 14) (sendCred c))) fun _ => ?_)
  · iintro ⟨Hctx, HO, Hf, Hf', Hx, ⟨⟨Hs, Hr, Ht1, Ht2⟩, -⟩, Hdone⟩
    isplitl [Hctx HO Hf Hx Hs]
    · isplitl [Hctx]; · iexact Hctx
      isplitl [HO]; · iexact HO
      isplitl [Hf]; · iexact Hf
      isplitl [Hx] <;> iassumption
    isplitl [Hf']; · iexact Hf'
    isplitl [Hr]; · iexact Hr
    isplitl [Ht1 Ht2]
    · isplitl [Ht1] <;> iassumption
    iexact Hdone
  refine BIBase.Entails.trans ?_ (wp_last c (wp_copyStep m K c ⟨14, h14⟩) (Fr := iprop(lIdle m c 0 ∗ inFlight m c 15 ∗ xPts m c
    ∗ bigSep (done 15 14) (sendCred c))) fun _ => ?_)
  · iintro ⟨⟨Hctx, HO, Hl, Hx, Hs⟩, Hf', Hr, ⟨Ht1, Ht2⟩, Hdone⟩
    isplitl [Hctx HO Hs Hr Ht1 Ht2]
    · isplitl [Hctx]; · iexact Hctx
      isplitl [HO]; · iexact HO
      isplitl [Hs]; · iexact Hs
      isplitl [Hr]; · iexact Hr
      isplitl [Ht1] <;> iassumption
    isplitl [Hl]; · iexact Hl
    isplitl [Hf']; · iexact Hf'
    isplitl [Hx] <;> iassumption
  · rw [← owedFrom_end (owedRecv c)]
    iintro ⟨⟨Hctx, HO, Hc⟩, Hl, Hf', Hx, Hdone⟩
    isplitl [Hctx]; · iexact Hctx
    isplitl [HO]; · iexact HO
    isplitl [Hl]; · iexact Hl
    isplitl [Hf']; · iexact Hf'
    isplitl [Hx]; · iexact Hx
    isplitl [Hc] <;> iassumption

/-! ## The result -/

theorem rowInb (e : Dev nD) : ∀ a, (![256 * e.val, 0] : Fin 2 → ℕ) a + S256x512.size a ≤ S4096x512.size a := by
  intro a
  fin_cases a
  · have := e.isLt; simp [nD] at this ⊢; omega
  · simp
/-- The rows of the result that come from device `e`. -/
abbrev rowR (e : Dev nD) : Rect S4096x512 := Rect.unit (s := S4096x512) ![256 * e.val, 0] S256x512.size (rowInb e)
/-- What they hold. -/
def oread (e : Dev nD) (f : (cc0_stg1_0 : Ref sig .tc).ty.Contents (Elt F)) : Vec F S256x512 .f32 := (oB.access (rowR e)).read (Elt F) f

theorem rowR_disjoint {e e' : Dev nD} (h : e ≠ e') : Disjoint (oB.access (rowR e)).set (oB.access (rowR e')).set := by
  refine View.disjoint_slice_of_sep _ _ _ (0 : Fin 2) rfl rfl ?_
  have : e.val ≠ e'.val := fun h' => h (Fin.ext h')
  show 256 * e.val + 256 ≤ 256 * e'.val ∨ 256 * e'.val + 256 ≤ 256 * e.val
  omega

omit [FloatOps F] in
/-- After a store of rows, those rows hold the payload and every other device's hold what they held. -/
theorem oread_write (e e' : Dev nD) (off : Fin 2 → ℕ) (ho : off = ![256 * e.val, 0]) (hi : ∀ a, off a + S256x512.size a ≤ S4096x512.size a)
    (f : (cc0_stg1_0 : Ref sig .tc).ty.Contents (Elt F)) (w : Vec F S256x512 .f32) :
    oread e' ((oB.access (Rect.unit (s := S4096x512) off S256x512.size hi)).write (Elt F) f w Finset.univ) = if e' = e then w else oread e' f := by
  subst ho
  unfold oread
  by_cases h : e' = e
  · subst h
    rw [if_pos rfl]
    exact View.read_write_univ _ _
  · rw [if_neg h]
    exact View.read_slice_write_slice_of_disjoint _ _ _ _ _ (rowR_disjoint h)

/-- Whose rows are in place after the device's own and `k` received blocks. -/
def outDone (c : Dev nD) (k : ℕ) (f : (cc0_stg1_0 : Ref sig .tc).ty.Contents (Elt F)) : Prop :=
  ∀ e, (e = c ∨ ∃ t : Fin 15, t.val < k ∧ e = bwd (OFF t) c) → oread e f = rowsOf m c e

/-- The result's window at some contents with those rows in place. -/
def oPts (c : Dev nD) (P : (cc0_stg1_0 : Ref sig .tc).ty.Contents (Elt F) → Prop) : sProp 𝕄 :=
  iprop(∃ f : Buf (Elt F) ((c : Thread nD τ).loc cc0_stg1_0), ⌜P f⌝ ∗ ((c : Thread nD τ).loc cc0_stg1_0) ↦{fullShare} f)

theorem wp_ownStep (c : Dev nD) :
    iprop(ctx m K ∗ owing c 0 ∗ inFlight m c 15 ∗ xPts m c ∗ oPts c fun _ => True)
      ⊢ Wp c (ownStep (F := F) c) fun _ =>
        iprop(ctx m K ∗ owing c 0 ∗ lIdle m c 1 ∗ xPts m c ∗ oPts c (outDone m c 0)) := by
  unfold ownStep
  unfold Wp; rw [wp_bind]
  iintro ⟨Hctx, HO, Hf, Hx, Ho⟩
  iapply wp_wand $$ [Hctx HO Hf Hx]
  · iapply (wp_readStep m K c 15 15)
    isplitl [Hctx]; · iexact Hctx
    isplitl [HO]; · rw [owedFrom_end]; iexact HO
    isplitl [Hf] <;> iassumption
  iintro %xw ⟨%hxw, Hctx, HO, Hl, Hx⟩
  subst hxw
  simp only [Prog.lift, Prog.bind_op, Prog.bind_ret, Prog.pure_eq_ret]
  unfold oPts
  icases Ho with ⟨%f, -, Ho⟩
  iapply (wp_load 𝒱₀ (c : Thread nD τ) none Set.univ (m := oB) (Finset.subset_univ _)) $$ Ho; iintro Ho
  iapply (wp_store 𝒱₀ (c : Thread nD τ) none Set.univ (m := oB) (r := Rect.unit (s := S4096x512) (k0_off3 c) S256x512.size (k0_off3_inb c)) (Mk := Finset.univ) (Finset.subset_univ _)) $$ Ho; iintro Ho
  rw [wp_ret]; imodintro
  isplitl [Hctx]; · iexact Hctx
  isplitl [HO]; · rw [owedFrom_end]; iexact HO
  isplitl [Hl]; · iexact Hl
  isplitl [Hx]; · iexact Hx
  iexists ((oB.access (Rect.unit (s := S4096x512) (k0_off3 c) S256x512.size (k0_off3_inb c))).write (Elt F) f
    (k0_pay30 (xstg m c) (wld m c (colDev c 15))) Finset.univ)
  isplitr
  · ipureintro
    rintro e (rfl | ⟨t, ht, -⟩)
    · refine (oread_write e e _ (ownOff_eq e) _ _ _).trans ?_
      rw [if_pos rfl]; unfold rowsOf; rw [if_pos rfl]; rfl
    · exact absurd ht (Nat.not_lt_zero _)
  iexact Ho

/-! ## Receiving -/

/-- What a step's wait spends. -/
def recvTok (c : Dev nD) (t : Fin 15) : sProp 𝕄 := iprop(cred (tallyAt (recvCell t c) () N) ∗ atPos ER (recvCell t c) 0 ∅ 0)
/-- What it leaves. -/
def recvDone (c : Dev nD) (t : Fin 15) : sProp 𝕄 := iprop(semVal (recvCell t c) 0 ∗ ∃ f, rPts c t f)
/-- The state of the receiving phase before step `k`. -/
def invRecv (c : Dev nD) (k : ℕ) : sProp 𝕄 :=
  iprop(ctx m K ∗ owing c 0 ∗ oPts c (outDone m c k) ∗ bigSep (todo 15 k) (recvTok c) ∗ bigSep (done 15 k) (recvDone c))

theorem bwd_ne : ∀ (t : Fin 15) (c : Dev nD), bwd (OFF t) c ≠ c := by decide +kernel

theorem wp_recvStep (c : Dev nD) (k : ℕ) (h : k < 15) :
    invRecv m K c k ⊢ Wp c (recvStep (F := F) c ⟨k, h⟩) fun _ => invRecv m K c (k + 1) := by
  unfold recvStep
  simp only [Prog.lift, Prog.bind_op, Prog.bind_ret, Prog.pure_eq_ret]
  unfold invRecv ctx owing
  rw [todo_take h, done_put h]
  unfold recvTok recvDone oPts
  iintro ⟨⟨#HR, #HL⟩, ⟨%W, HO⟩, ⟨%f, %hf, Ho⟩, ⟨⟨Hc, Hat⟩, Htodo⟩, Hdone⟩
  iapply (Rounds.wp_wait_rest_token 𝒱₀ ER (Rd m) (c : Thread nD τ) none (κ := K (c, ckR ⟨k, h⟩))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, ckR ⟨k, h⟩)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c ⟨k, h⟩)) $$ Hpay
  unfold recvPay rPts
  icases Hp with ⟨%g, %hg, Hr⟩
  imod (Rounds.cell_close ER (Rd m) (Set.mem_univ (K (c, ckR ⟨k, h⟩))) (fun h => h) (R := 0 + 1) (duties_later m (recvCell ⟨k, h⟩ c))) $$ [Hat] with Hz
  · isplitr; · iapply (inv_at m K (c, ckR ⟨k, h⟩)); iexact HR
    iexact Hat
  iapply (wp_load_rect 𝒱₀ (c : Thread nD τ) none Set.univ (m := rB) (r := slotR ⟨k, h⟩) (by rw [rAccess_set])) $$ Hr; iintro Hr
  iapply (wp_load 𝒱₀ (c : Thread nD τ) none Set.univ (m := oB) (Finset.subset_univ _)) $$ Ho; iintro Ho
  iapply (wp_store 𝒱₀ (c : Thread nD τ) none Set.univ (m := oB) (r := Rect.unit (s := S4096x512) (rowOff c ⟨k, h⟩) S256x512.size (rowOff_inb c ⟨k, h⟩)) (Mk := Finset.univ) (Finset.subset_univ _)) $$ Ho; iintro Ho
  rw [wp_ret]; imodintro
  isplitr
  · isplitr; · iexact HR
    iexact HL
  isplitl [HO]; · iexists _; iexact HO
  isplitl [Ho]
  · iexists ((oB.access (Rect.unit (s := S4096x512) (rowOff c ⟨k, h⟩) S256x512.size (rowOff_inb c ⟨k, h⟩))).write (Elt F) f
      (k0_pay31 ((rB.access (slotR ⟨k, h⟩)).read (Elt F) g)) Finset.univ)
    isplitr
    · ipureintro
      intro e he
      refine (oread_write (bwd (OFF ⟨k, h⟩) c) e _ (rowOff_eq c ⟨k, h⟩) _ _ _).trans ?_
      by_cases hk : e = bwd (OFF ⟨k, h⟩) c
      · rw [if_pos hk, hk]
        unfold rowsOf
        rw [if_neg (bwd_ne _ _), read_r ⟨k, h⟩ g _ hg]
      · rw [if_neg hk]
        refine hf e (he.imp_right fun ⟨t, ht, hte⟩ => ⟨t, ?_, hte⟩)
        rcases Nat.lt_succ_iff_lt_or_eq.mp ht with h1 | h1
        · exact h1
        · exact absurd (by rw [hte]; congr 2; exact Fin.ext h1) hk
    iexact Ho
  isplitl [Htodo]; · iexact Htodo
  isplitr [Hdone]
  · isplitl [Hz]; · iexact Hz
    iexists g; iexact Hr
  iexact Hdone

/-! ## Closing -/

/-- What a closing wait spends. -/
def sentTok (c : Dev nD) (t : Fin 15) : sProp 𝕄 := iprop(sendCred c t ∗ atPos ER (sendCell t c) 0 ∅ 0)
/-- What it leaves. -/
def sentDone (c : Dev nD) (t : Fin 15) : sProp 𝕄 := iprop(semVal (sendCell t c) 0 ∗ ∃ f, sPts c t f)
/-- The state of the closing phase before step `k`. -/
def invSent (c : Dev nD) (k : ℕ) : sProp 𝕄 :=
  iprop(ctx m K ∗ owing c 0 ∗ bigSep (todo 15 k) (sentTok c) ∗ bigSep (done 15 k) (sentDone c))

theorem wp_sentStep (c : Dev nD) (k : ℕ) (h : k < 15) :
    invSent m K c k ⊢ Wp c (sentStep (F := F) ⟨k, h⟩) fun _ => invSent m K c (k + 1) := by
  unfold sentStep
  simp only [Prog.lift]
  unfold invSent ctx owing
  rw [todo_take h, done_put h]
  unfold sentTok sentDone sendCred
  iintro ⟨⟨#HR, #HL⟩, ⟨%W, HO⟩, ⟨⟨Hc, Hat⟩, Htodo⟩, Hdone⟩
  iapply (Rounds.wp_wait_rest_token 𝒱₀ ER (Rd m) (c : Thread nD τ) none (κ := K (c, ckS ⟨k, h⟩))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K (c, ckS ⟨k, h⟩)); iexact HR
    isplitl [Hc]; · iexact Hc
    isplitl [HO]; · iexact HO
    isplitr; · rw [MayWait_zero]; iempintro
    iexact Hat
  iintro ⟨HO, Hat, -, Hpay⟩
  ihave Hp := (Entails.of_eq (rest_send m c ⟨k, h⟩)) $$ Hpay
  imod (Rounds.cell_close ER (Rd m) (Set.mem_univ (K (c, ckS ⟨k, h⟩))) (fun h => h) (R := 0 + 1) (duties_later m (sendCell ⟨k, h⟩ c))) $$ [Hat] with Hz
  · isplitr; · iapply (inv_at m K (c, ckS ⟨k, h⟩)); iexact HR
    iexact Hat
  rw [wp_ret]; imodintro
  isplitr
  · isplitr; · iexact HR
    iexact HL
  isplitl [HO]; · iexists _; iexact HO
  isplitl [Htodo]; · iexact Htodo
  isplitr [Hdone]
  · isplitl [Hz]; · iexact Hz
    unfold sendPay; iexact Hp
  iexact Hdone

end Cert.KernelIdeal

end
-- ==== Proof.KernelIdealBody.lean ====
/-
# The body, whole

The phases one after the other, and the memory of the buffers cut into the slots the phases use.
-/
module

public import proofs.«01_k».proof.Proof.KernelIdealPhases
public import Idealize.ShloMosaic.Lib.Ring

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The result, complete -/

theorem covered : ∀ c e : Dev nD, e = c ∨ ∃ t : Fin 15, t.val < 15 ∧ e = bwd (OFF t) c := by decide +kernel

omit [FloatOps F] in
/-- Contents are known from every device's rows. -/
theorem oread_at (f : (cc0_stg1_0 : Ref sig .tc).ty.Contents (Elt F)) (i : S4096x512.Idx) (h : (i 0).val / 256 < nD) :
    f i = oread ⟨(i 0).val / 256, h⟩ f (ValueIdx.ix2 (n0 := 256) (n1 := 512) ⟨(i 0).val % 256, Nat.mod_lt _ (by decide)⟩ (i 1)) := by
  refine congrArg f (funext fun a => Fin.ext ?_)
  fin_cases a
  · show (i 0).val = 256 * ((i 0).val / 256) + 1 * ((i 0).val % 256)
    omega
  · show (i 1).val = 0 + 1 * (i 1).val
    omega

theorem outDone_end (c : Dev nD) (f : (cc0_stg1_0 : Ref sig .tc).ty.Contents (Elt F)) (hf : outDone m c 15 f) : f = outAt m c := by
  refine funext fun i : S4096x512.Idx => ?_
  have h : (i 0).val / 256 < nD := by have := (i 0).isLt; simp at this; simp [nD]; omega
  refine (oread_at f i h).trans ?_
  rw [hf _ (covered c _)]
  rfl

/-! ## The buffers, slot by slot -/

theorem off_slot (t : Fin 15) (a : Fin 3) (h : a ≠ 0) : (![t.val, 0, 0] : Fin 3 → ℕ) a = 0 := by
  fin_cases a
  · exact absurd rfl h
  · rfl
  · rfl
theorem slots_disjoint (t t' : Fin 15) (h : t ≠ t') : Disjoint (slotR t).set (slotR t').set :=
  Ring.lead_disjoint (s := S15x256x512) (0 : Fin 3) 1 (fun t : Fin 15 => ![t.val, 0, 0]) S1x256x512.size slotInb (fun t => (Nat.one_mul _).symm) rfl t t' h
theorem slots_cover (i : S15x256x512.Idx) : ∃ t : Fin 15, i ∈ (slotR t).set := by
  have h := Ring.lead_cover (s := S15x256x512) (0 : Fin 3) 1 (fun t : Fin 15 => ![t.val, 0, 0]) S1x256x512.size slotInb (fun t => (Nat.one_mul _).symm)
    off_slot rfl (fun a h => by fin_cases a <;> first | exact absurd rfl h | rfl) rfl
  obtain ⟨t, -, ht⟩ := Finset.mem_biUnion.mp (h.symm ▸ Finset.mem_univ i)
  exact ⟨t, ht⟩
theorem off_wslot (t : Fin 2) (a : Fin 3) (h : a ≠ 0) : (![t.val, 0, 0] : Fin 3 → ℕ) a = 0 := by
  fin_cases a
  · exact absurd rfl h
  · rfl
  · rfl
theorem wslots_disjoint (t t' : Fin 2) (h : t ≠ t') : Disjoint (wslotR t).set (wslotR t').set :=
  Ring.lead_disjoint (s := S2x4096x512) (0 : Fin 3) 1 (fun t : Fin 2 => ![t.val, 0, 0]) S1x4096x512.size wslotInb (fun t => (Nat.one_mul _).symm) rfl t t' h
theorem wslots_cover (i : S2x4096x512.Idx) : ∃ t : Fin 2, i ∈ (wslotR t).set := by
  have h := Ring.lead_cover (s := S2x4096x512) (0 : Fin 3) 1 (fun t : Fin 2 => ![t.val, 0, 0]) S1x4096x512.size wslotInb (fun t => (Nat.one_mul _).symm)
    off_wslot rfl (fun a h => by fin_cases a <;> first | exact absurd rfl h | rfl) rfl
  obtain ⟨t, -, ht⟩ := Finset.mem_biUnion.mp (h.symm ▸ Finset.mem_univ i)
  exact ⟨t, ht⟩

theorem rSlot_set (t : Fin 15) : (rSlot t).view.set = (slotR t).set :=
  (rAccess_set t).symm.trans (View.set_slice_whole cc0_scratch2 (slotR t))
theorem sSlot_set (t : Fin 15) : (sSlot t).view.set = (slotR t).set :=
  (sAccess_set t).symm.trans (View.set_slice_whole cc0_scratch1 (slotR t))
theorem lSlot_set (s : Fin 2) : (lSlot s).view.set = (wslotR s).set :=
  (lAccess_set s).symm.trans (View.set_slice_whole cc0_scratch0 (wslotR s))

/-- A buffer at some contents. -/
def bufPts (c : Dev nD) (b : Ref sig .tc) : sProp 𝕄 :=
  iprop(∃ f : Buf (Elt F) ((c : Thread nD τ).loc b), ((c : Thread nD τ).loc b) ↦{fullShare} f)

section Blocks
variable {ℓ : Loc nD τ sig} {B : Type} [Fintype B] [DecidableEq B] (I : B → Finset (Idx ℓ))
  (hd : ∀ b b', b ≠ b' → Disjoint (I b) (I b')) (hc : ∀ i, ∃ b, i ∈ I b)
include hc
omit [DecidableEq B] in
theorem blocks_cover : Finset.univ.biUnion I = Finset.univ :=
  Finset.eq_univ_iff_forall.mpr fun i => Finset.mem_biUnion.mpr (let ⟨b, hb⟩ := hc i; ⟨b, Finset.mem_univ _, hb⟩)
include hd

omit [FloatOps F] in
/-- A buffer at some contents is its blocks, each at some contents; -/
theorem blocks_split : iprop(∃ f : Buf (Elt F) ℓ, ℓ ↦{fullShare} f) ⊢ (bigSep Finset.univ fun b => iprop(∃ f : Buf (Elt F) ℓ, ℓ ↦[I b]{fullShare} f) : sProp 𝕄) :=
  exists_elim fun f => (Entails.of_eq (Ring.pointsTo_blocks I hd (blocks_cover I hc) f)).trans
    (bigSep_mono fun b _ => exists_intro (Φ := fun f => (ℓ ↦[I b]{fullShare} f : sProp 𝕄)) f)

/-- and the blocks are the buffer. -/
theorem blocks_join : (bigSep Finset.univ fun b => iprop(∃ f : Buf (Elt F) ℓ, ℓ ↦[I b]{fullShare} f) : sProp 𝕄) ⊢ iprop(∃ f : Buf (Elt F) ℓ, ℓ ↦{fullShare} f) :=
  Ring.pointsTo_blocks_join_exists I hd (blocks_cover I hc) (fun _ => Classical.arbitrary _)
end Blocks

def rI (c : Dev nD) (t : Fin 15) : Finset (Idx ((c : Thread nD τ).loc cc0_scratch2)) := (slotR t).set
theorem rI_disjoint (c : Dev nD) : ∀ b b', b ≠ b' → Disjoint (rI c b) (rI c b') := slots_disjoint
theorem rI_cover (c : Dev nD) : ∀ i, ∃ b, i ∈ rI c b := slots_cover
omit [FloatOps F] in
theorem rPts_eq (c : Dev nD) (t : Fin 15) : iprop(∃ f, rPts c t f)
    = (iprop(∃ f : Buf (Elt F) ((c : Thread nD τ).loc cc0_scratch2), ((c : Thread nD τ).loc cc0_scratch2) ↦[rI c t]{fullShare} f) : sProp 𝕄) := by
  unfold rPts rI; rw [rSlot_set]
omit [FloatOps F] in
theorem r_split (c : Dev nD) : bufPts c cc0_scratch2 ⊢ (bigSep Finset.univ fun t => iprop(∃ f, rPts c t f) : sProp 𝕄) :=
  (blocks_split (rI c) (rI_disjoint c) (rI_cover c)).trans (bigSep_mono fun t _ => Entails.of_eq (rPts_eq c t).symm)
theorem r_join (c : Dev nD) : (bigSep Finset.univ fun t => iprop(∃ f, rPts c t f) : sProp 𝕄) ⊢ bufPts c cc0_scratch2 :=
  (bigSep_mono fun t _ => Entails.of_eq (rPts_eq c t)).trans (blocks_join (rI c) (rI_disjoint c) (rI_cover c))

def sI (c : Dev nD) (t : Fin 15) : Finset (Idx ((c : Thread nD τ).loc cc0_scratch1)) := (slotR t).set
theorem sI_disjoint (c : Dev nD) : ∀ b b', b ≠ b' → Disjoint (sI c b) (sI c b') := slots_disjoint
theorem sI_cover (c : Dev nD) : ∀ i, ∃ b, i ∈ sI c b := slots_cover
omit [FloatOps F] in
theorem sPts_eq (c : Dev nD) (t : Fin 15) : iprop(∃ f, sPts c t f)
    = (iprop(∃ f : Buf (Elt F) ((c : Thread nD τ).loc cc0_scratch1), ((c : Thread nD τ).loc cc0_scratch1) ↦[sI c t]{fullShare} f) : sProp 𝕄) := by
  unfold sPts sI; rw [sSlot_set]
omit [FloatOps F] in
theorem s_split (c : Dev nD) : bufPts c cc0_scratch1 ⊢ (bigSep Finset.univ fun t => iprop(∃ f, sPts c t f) : sProp 𝕄) :=
  (blocks_split (sI c) (sI_disjoint c) (sI_cover c)).trans (bigSep_mono fun t _ => Entails.of_eq (sPts_eq c t).symm)
theorem s_join (c : Dev nD) : (bigSep Finset.univ fun t => iprop(∃ f, sPts c t f) : sProp 𝕄) ⊢ bufPts c cc0_scratch1 :=
  (bigSep_mono fun t _ => Entails.of_eq (sPts_eq c t)).trans (blocks_join (sI c) (sI_disjoint c) (sI_cover c))

def lI (c : Dev nD) (t : Fin 2) : Finset (Idx ((c : Thread nD τ).loc cc0_scratch0)) := (wslotR t).set
theorem lI_disjoint (c : Dev nD) : ∀ b b', b ≠ b' → Disjoint (lI c b) (lI c b') := wslots_disjoint
theorem lI_cover (c : Dev nD) : ∀ i, ∃ b, i ∈ lI c b := wslots_cover
omit [FloatOps F] in
theorem lPts_eq (c : Dev nD) (t : Fin 2) : iprop(∃ f, lPts c t f)
    = (iprop(∃ f : Buf (Elt F) ((c : Thread nD τ).loc cc0_scratch0), ((c : Thread nD τ).loc cc0_scratch0) ↦[lI c t]{fullShare} f) : sProp 𝕄) := by
  unfold lPts lI; rw [lSlot_set]
omit [FloatOps F] in
theorem l_split (c : Dev nD) : bufPts c cc0_scratch0 ⊢ (bigSep Finset.univ fun t => iprop(∃ f, lPts c t f) : sProp 𝕄) :=
  (blocks_split (lI c) (lI_disjoint c) (lI_cover c)).trans (bigSep_mono fun t _ => Entails.of_eq (lPts_eq c t).symm)
theorem l_join (c : Dev nD) : (bigSep Finset.univ fun t => iprop(∃ f, lPts c t f) : sProp 𝕄) ⊢ bufPts c cc0_scratch0 :=
  (bigSep_mono fun t _ => Entails.of_eq (lPts_eq c t)).trans (blocks_join (lI c) (lI_disjoint c) (lI_cover c))

/-! ## The phases in order -/

/-- A program and what follows it. -/
theorem wp_seq {α β : Type} (c : Dev nD) {P : sProp 𝕄} {p : BProg F α} {k : α → BProg F β} {R : α → sProp 𝕄} {Q : β → sProp 𝕄}
    (h : P ⊢ Wp c p R) : P ⊢ iprop((∀ a, R a -∗ Wp c (k a) Q) -∗ Wp c (p >>= k) Q) := by
  unfold Wp
  rw [wp_bind]
  exact h.trans (wp_wand _ _ _)

/-- What the body spends. -/
def bodyStart (c : Dev nD) : sProp 𝕄 :=
  iprop(ctx m K ∗ owing c (O₀ c)
    ∗ bigSep Finset.univ (fun t => dutyTok ER (barCell (bwd (OFF t) c)) 0 t) ∗ bigSep Finset.univ (fun t => iprop(∃ f, rPts c t f))
    ∗ cred (tallyAt (barCell c) () 15) ∗ atPos ER (barCell c) 0 ∅ 0
    ∗ lIdle m c 0 ∗ lIdle m c 1 ∗ xPts m c ∗ oPts c (fun _ => True)
    ∗ bigSep Finset.univ (fun t => iprop(∃ f, sPts c t f))
    ∗ bigSep Finset.univ (fun t => dutyTok ER (sendCell t c) 0 0) ∗ bigSep Finset.univ (fun t => dutyTok ER (recvCell t (fwd (OFF t) c)) 0 0)
    ∗ bigSep Finset.univ (fun t => cred (tallyAt (recvCell t c) () N)) ∗ bigSep Finset.univ (fun t => atPos ER (recvCell t c) 0 ∅ 0)
    ∗ bigSep Finset.univ (fun t => atPos ER (sendCell t c) 0 ∅ 0))

/-- What it leaves. -/
def bodyEnd (c : Dev nD) : sProp 𝕄 :=
  iprop(owing c 0 ∗ semVal (barCell c) 0 ∗ lIdle m c 0 ∗ lIdle m c 1 ∗ xPts m c ∗ oPts c (fun f => f = outAt m c)
    ∗ bigSep Finset.univ (fun t => semVal (recvCell t c) 0) ∗ bigSep Finset.univ (fun t => iprop(∃ f, rPts c t f))
    ∗ bigSep Finset.univ (fun t => semVal (sendCell t c) 0) ∗ bigSep Finset.univ (fun t => iprop(∃ f, sPts c t f)))

omit [FloatOps F] in
theorem recvDone_all (c : Dev nD) : (bigSep (done 15 15) (recvDone c) : sProp 𝕄)
    = iprop(bigSep Finset.univ (fun t => semVal (recvCell t c) 0) ∗ bigSep Finset.univ (fun t => iprop(∃ f, rPts c t f))) := by
  rw [done_end]; unfold recvDone; rw [bigSep_sep']
omit [FloatOps F] in
theorem sentDone_all (c : Dev nD) : (bigSep (done 15 15) (sentDone c) : sProp 𝕄)
    = iprop(bigSep Finset.univ (fun t => semVal (sendCell t c) 0) ∗ bigSep Finset.univ (fun t => iprop(∃ f, sPts c t f))) := by
  rw [done_end]; unfold sentDone; rw [bigSep_sep']

theorem wp_prog (c : Dev nD) : bodyStart m K c ⊢ Wp c (prog (F := F)) fun _ => bodyEnd m c := by
  unfold prog
  simp only [Prog.lift, Prog.bind_op, Prog.bind_ret]
  unfold Wp
  rw [wp_deviceId]
  unfold bodyStart
  iintro ⟨Hctx, HO, HtB, Hr, HcB, HaB, Hl0, Hl1, Hx, Ho, Hs, HtS, HtR, HcR, HaR, HaS⟩
  -- the entry handshake
  iapply (wp_seq c (wp_loop c _ (invSig m K c) (wp_sigStep m K c))) $$ [Hctx HO HtB Hr]
  · unfold invSig sigTok O₀
    rw [todo_zero, bigSep_sep']
    isplitl [Hctx]; · iexact Hctx
    isplitl [HO]; · iexact HO
    isplitl [HtB] <;> iassumption
  iintro %u H
  unfold invSig
  rw [owedFrom_end, add_zero]
  icases H with ⟨Hctx, HO, -⟩
  iapply (wp_seq c (wp_barWait m K c)) $$ [Hctx HO HcB HaB]
  · isplitl [Hctx]; · iexact Hctx
    isplitl [HO]; · iexact HO
    isplitl [HcB] <;> iassumption
  iintro %u ⟨Hctx, HO, HzB, Hr⟩
  -- the first two loads
  iapply (wp_seq c (wp_loadStep m c 0)) $$ [Hl0]
  · iexact Hl0
  iintro %u Hf0
  iapply (wp_seq c (wp_loadStep m c 1)) $$ [Hl1]
  · iexact Hl1
  iintro %u Hf1
  -- sending
  iapply (wp_seq c (wp_loop c _ (invSend m K c) (wp_sendStep m K c))) $$ [Hctx HO Hf0 Hf1 Hx Hs Hr HtS HtR]
  · unfold invSend
    rw [todo_zero, done_zero]
    isplitl [Hctx]; · iexact Hctx
    isplitl [HO]; · iexact HO
    isplitl [Hf0]; · iexact Hf0
    isplitl [Hf1]; · iexact Hf1
    isplitl [Hx]; · iexact Hx
    isplitr []
    · unfold sendTok
      rw [bigSep_sep', bigSep_sep', bigSep_sep']
      isplitl [Hs]; · iexact Hs
      isplitl [Hr]; · unfold barPay; iexact Hr
      isplitl [HtS] <;> iassumption
    rw [bigSep_empty]; iempintro
  iintro %u H
  iapply (wp_seq c (wp_sendLast m K c)) $$ [H]
  · iexact H
  iintro %u ⟨Hctx, HO, Hl0, Hf1, Hx, HcS⟩
  -- its own block
  iapply (wp_seq c (wp_ownStep m K c)) $$ [Hctx HO Hf1 Hx Ho]
  · isplitl [Hctx]; · iexact Hctx
    isplitl [HO]; · iexact HO
    isplitl [Hf1]; · iexact Hf1
    isplitl [Hx] <;> iassumption
  iintro %u ⟨Hctx, HO, Hl1, Hx, Ho⟩
  -- receiving
  iapply (wp_seq c (wp_loop c _ (invRecv m K c) (wp_recvStep m K c))) $$ [Hctx HO Ho HcR HaR]
  · unfold invRecv recvTok
    rw [todo_zero, done_zero, bigSep_sep']
    isplitl [Hctx]; · iexact Hctx
    isplitl [HO]; · iexact HO
    isplitl [Ho]; · iexact Ho
    isplitl [HcR HaR]
    · isplitl [HcR] <;> iassumption
    rw [bigSep_empty]; iempintro
  iintro %u H
  unfold invRecv
  icases H with ⟨Hctx, HO, Ho, -, Hd⟩
  -- closing
  iapply wp_wand $$ [Hctx HO HcS HaS]
  · iapply (wp_loop c _ (invSent m K c) (wp_sentStep m K c))
    unfold invSent sentTok
    rw [todo_zero, done_zero, bigSep_sep']
    isplitl [Hctx]; · iexact Hctx
    isplitl [HO]; · iexact HO
    isplitl [HcS HaS]
    · isplitl [HcS] <;> iassumption
    rw [bigSep_empty]; iempintro
  iintro %u H
  unfold invSent
  icases H with ⟨-, HO, -, Hd'⟩
  ihave HR := (Entails.of_eq (recvDone_all c)) $$ Hd
  ihave HS := (Entails.of_eq (sentDone_all c)) $$ Hd'
  icases HR with ⟨HzR, Hr⟩
  icases HS with ⟨HzS, Hs⟩
  unfold bodyEnd
  isplitl [HO]; · iexact HO
  isplitl [HzB]; · iexact HzB
  isplitl [Hl0]; · iexact Hl0
  isplitl [Hl1]; · iexact Hl1
  isplitl [Hx]; · iexact Hx
  isplitl [Ho]
  · unfold oPts
    icases Ho with ⟨%f, %hf, Ho⟩
    iexists f
    isplitr; · ipureintro; exact outDone_end m c f hf
    iexact Ho
  isplitl [HzR]; · iexact HzR
  isplitl [Hr]; · iexact Hr
  isplitl [HzS] <;> iassumption

end Cert.KernelIdeal

end
-- ==== Proof.KernelIdealLaunch.lean ====
/-
# The launch

The proof data of the kernel's one point, its body obligation, the resources dealt to the devices at launch, and the run.
-/
module

public import proofs.«01_k».proof.Proof.KernelIdealBody
public import proofs.«01_k».proof.Proof.Gen.KernelIdeal.Points
public import Idealize.ShloMosaic.Lib.Pipeline.FrameBody
public import Idealize.ShloMosaic.Lib.Pipeline.CollectiveSegs

@[expose] public section

set_option maxRecDepth 16384

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds at the two ends of its body -/

/-- The semaphores the body leaves alone. -/
def spareSem (i : Fin 2) : DmaSem sig := if i = 0 then ⟨19, by decide⟩ else ⟨35, by decide⟩
/-- A device's own semaphores: sends, receives, loads, and those left alone. -/
def osem : (Fin 15 ⊕ Fin 15) ⊕ (Fin 2 ⊕ Fin 2) → SemLoc sig
  | .inl (.inl t) => .dma (sSem t)
  | .inl (.inr t) => .dma (rSem t)
  | .inr (.inl s) => .dma (lSem s)
  | .inr (.inr i) => .dma (spareSem i)

theorem ownSemFacts : Pipeline.OwnSemFacts cfg0.spec osem := by decide +kernel

/-- The semaphores no other device meets at, at zero. -/
def rest (c : Dev nD) : sProp 𝕄 :=
  iprop(bigSep Finset.univ (fun s : Fin 2 => semVal ((c : Thread nD τ), .dma (lSem s)) 0)
    ∗ bigSep Finset.univ (fun i : Fin 2 => semVal ((c : Thread nD τ), .dma (spareSem i)) 0))

omit [FloatOps F] in
theorem bigSep_two (Φ : Fin 2 → sProp 𝕄) : bigSep Finset.univ Φ = iprop(Φ 0 ∗ Φ 1) := bigSep_fin_two Φ

omit [FloatOps F] in
theorem rest_eq (c : Dev nD) : rest (F := F) c = iprop((semVal ((c : Thread nD τ), .dma (lSem 0)) 0 ∗ semVal ((c : Thread nD τ), .dma (lSem 1)) 0)
    ∗ bigSep Finset.univ (fun i : Fin 2 => semVal ((c : Thread nD τ), .dma (spareSem i)) 0)) := by
  unfold rest; rw [bigSep_two]

/-- The tokens of the duties device `c` pays. -/
def payToks (c : Dev nD) : sProp 𝕄 :=
  iprop(bigSep Finset.univ (fun t => dutyTok ER (barCell (bwd (OFF t) c)) 0 t)
    ∗ bigSep Finset.univ (fun t => dutyTok ER (sendCell t c) 0 0) ∗ bigSep Finset.univ (fun t => dutyTok ER (recvCell t (fwd (OFF t) c)) 0 0))

/-- What device `c` alone holds. -/
def linear (c : Dev nD) : sProp 𝕄 :=
  iprop((bigSep Finset.univ fun k : CK => atPos ER (kcell (c, k)) 0 ∅ 0) ∗ payToks c ∗ rest c)

/-- `w`, as launched. -/
def wWhole (c : Dev nD) : sProp 𝕄 := ((c : Thread nD τ).loc main_arg1) ↦{fullShare} m ((c : Thread nD τ).loc main_arg1)

def start (c : Dev nD) : sProp 𝕄 :=
  iprop((∃ K, records m K ∗ linear c) ∗ (cred (tallyAt (barCell c) () 15) ∗ bigSep Finset.univ fun t => cred (tallyAt (recvCell t c) () N))
    ∗ levAts L lv ∗ wWhole m c)

def bufs (c : Dev nD) : sProp 𝕄 := iprop(bufPts c cc0_scratch0 ∗ bufPts c cc0_scratch1 ∗ bufPts c cc0_scratch2)

def Φ₀ (c : Dev nD) : sProp 𝕄 := iprop(start m c ∗ bufs c)
def Φ₁ (c : Dev nD) : sProp 𝕄 :=
  iprop((semVal (barCell c) 0 ∗ wWhole m c)
    ∗ ((bigSep Finset.univ (fun t => semVal (sendCell t c) 0) ∗ bigSep Finset.univ (fun t => semVal (recvCell t c) 0)) ∗ rest c) ∗ bufs c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
theorem bigSep_CK (Φ : CK → sProp 𝕄) :
    bigSep Finset.univ Φ = iprop(Φ ckB ∗ bigSep Finset.univ (fun t => Φ (ckS t)) ∗ bigSep Finset.univ fun t => Φ (ckR t)) := by
  rw [bigSep_univ_sum, bigSep_univ_sum, bigSep_univ_of_subsingleton ()]; rfl

omit [FloatOps F] in
/-- `w` is its two halves. -/
theorem w_halves (c : Dev nD) : wWhole m c ⊣⊢ iprop(wHalf m c 0 ∗ wHalf m c 1) := by
  unfold wWhole wHalf half
  rw [if_pos rfl, if_neg (by decide)]
  exact pointsTo_share (PosShare.mem_left_op_right _)

/-! ## The body obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () (t0_0 : Fin cfg0.N).succ ∗ stg c cc0_stg0_0 (xstg m c) ∗ stg c cc0_stg1_0 (outAt m c))

theorem body_in (c : Dev nD) : bodyPre m c ⊢ iprop(∃ K, bodyStart m K c ∗ bigSep Finset.univ (fun i : Fin 2 => semVal ((c : Thread nD τ), .dma (spareSem i)) 0)) := by
  unfold bodyPre Φ₀ start bufs linear payToks
  rw [rest_eq, bigSep_CK]
  iintro ⟨⟨⟨⟨%K, HR, ⟨HaB, HaS, HaR⟩, ⟨HtB, HtS, HtR⟩, ⟨Hz0, Hz1⟩, Hsp⟩, ⟨HcB, HcR⟩, Hlev, Hw⟩, Hl, Hs, Hr⟩, HO, ⟨%d0, %g0, %hg0, Hx⟩, ⟨%d1, %g1, %hg1, Ho⟩⟩
  have hx : g0 = xstg m c := by rw [hg0]; unfold Dat.before; rw [if_pos (fetch0_0 t0_0)]; rfl
  subst hx
  unfold Dat.owesAt Pipeline.owesWithin
  icases HO with ⟨%W, -, HO⟩
  ihave Hw' := (w_halves m c).1 $$ Hw
  icases Hw' with ⟨Hw0, Hw1⟩
  ihave Hls := (l_split c) $$ Hl
  ihave Hls' := (Entails.of_eq (bigSep_two (fun s : Fin 2 => iprop(∃ f, lPts (F := F) c s f)))) $$ Hls
  icases Hls' with ⟨Hl0, Hl1⟩
  ihave Hss := (s_split c) $$ Hs
  ihave Hrs := (r_split c) $$ Hr
  iexists K
  isplitr [Hsp]
  · unfold bodyStart ctx lIdle xPts oPts owing
    isplitl [HR Hlev]
    · isplitl [HR] <;> iassumption
    isplitl [HO]; · iexists W; iexact HO
    isplitl [HtB]; · iexact HtB
    isplitl [Hrs]; · iexact Hrs
    isplitl [HcB]; · iexact HcB
    isplitl [HaB]; · iexact HaB
    isplitl [Hw0 Hl0 Hz0]
    · isplitl [Hw0]; · iexact Hw0
      isplitl [Hl0] <;> iassumption
    isplitl [Hw1 Hl1 Hz1]
    · isplitl [Hw1]; · iexact Hw1
      isplitl [Hl1] <;> iassumption
    isplitl [Hx]; · iexact Hx
    isplitl [Ho]
    · iexists g1
      isplitr; · ipureintro; trivial
      iexact Ho
    isplitl [Hss]; · iexact Hss
    isplitl [HtS]; · iexact HtS
    isplitl [HtR]; · iexact HtR
    isplitl [HcR]; · iexact HcR
    isplitl [HaR]; · iexact HaR
    iexact HaS
  iexact Hsp

theorem body_out (c : Dev nD) : iprop(bodyEnd m c ∗ bigSep Finset.univ (fun i : Fin 2 => semVal ((c : Thread nD τ), .dma (spareSem i)) 0)) ⊢ bodyPost m c := by
  unfold bodyEnd lIdle xPts oPts owing bodyPost Φ₁ bufs
  rw [rest_eq]
  iintro ⟨⟨⟨%W, HO⟩, HzB, ⟨Hw0, Hl0, Hz0⟩, ⟨Hw1, Hl1, Hz1⟩, Hx, ⟨%f, %hf, Ho⟩, HzR, Hr, HzS, Hs⟩, Hsp⟩
  isplitr [HO Hx Ho]
  · isplitl [HzB Hw0 Hw1]
    · isplitl [HzB]; · iexact HzB
      iapply (w_halves m c).2
      isplitl [Hw0] <;> iassumption
    isplitl [HzS HzR Hz0 Hz1 Hsp]
    · isplitl [HzS HzR]
      · isplitl [HzS] <;> iassumption
      isplitl [Hz0 Hz1]
      · isplitl [Hz0] <;> iassumption
      iexact Hsp
    isplitl [Hl0 Hl1]
    · iapply (l_join c)
      iapply (Entails.of_eq (bigSep_two (fun s : Fin 2 => iprop(∃ f, lPts (F := F) c s f))).symm)
      isplitl [Hl0] <;> iassumption
    isplitl [Hs]
    · iapply (s_join c); iexact Hs
    iapply (r_join c); iexact Hr
  isplitl [HO]
  · unfold Dat.owesAt Pipeline.owesWithin
    iexists W
    isplitr; · ipureintro; exact fun _ _ => Or.inl trivial
    iexact HO
  isplitl [Hx]
  · iexists _; isplitr; · (ipureintro; rfl)
    iexact Hx
  iexists f; isplitr; · (ipureintro; exact hf)
  iexact Ho

theorem body_sound (c : Dev nD) : bodyPre m c ⊢ Wp c (prog (F := F)) fun _ => bodyPost m c := by
  refine (body_in m c).trans (exists_elim fun K => ?_)
  exact wp_last c (wp_prog m K c) fun _ => body_out m c

theorem body_obligation (c : Dev nD) : BodyObligation (dats (F := F) m 0 c) (defs₀ (F := F)) 𝒱₀ () Set.univ := fun t => by
  rw [fin_N0 t]
  rw [show (Finset.univ : Finset (Fin cfg0.W)) = (Finset.univ : Finset (Fin 2)) from rfl, bigSep_W0, bigSep_W0]
  simp only [owns_whole_eq]
  show bodyPre m c ⊢ Wp c (cc0_body (F := F) xB (Memref.isWhole_whole _) wB (Memref.isWhole_whole _) oB (Memref.isWhole_whole _) lB (Memref.isWhole_whole _)
      sB (Memref.isWhole_whole _) rB (Memref.isWhole_whole _) cc0_scratch3 cc0_scratch4 cc0_scratch5) fun _ => bodyPost m c
  rw [body_eq]
  exact body_sound m c

end Cert.KernelIdeal

end
-- ==== Proof.KernelIdealRun.lean ====
/-
# The run

The resources dealt to the devices at launch, what they owe each other, and the run of the whole launch.
-/
module

public import proofs.«01_k».proof.Proof.KernelIdealLaunch
public import proofs.«01_k».proof.Proof.Gen.KernelIdeal.Points
public import Idealize.ShloMosaic.Lib.Pipeline.FrameBody
public import Idealize.ShloMosaic.Lib.Pipeline.CollectiveSegs

@[expose] public section

set_option maxRecDepth 16384

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem csem_injective : Function.Injective csem := fun a b h => Option.some.inj (by rw [← kindOf_csem a, ← kindOf_csem b, h])

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def meetCells : Finset (GSem nD τ sig) := Finset.univ.map ⟨kcell, kcell_injective⟩

/-- A device's own cells' tokens: its barrier's fifteen, and one of each send and receive cell. -/
abbrev TK : Type := Fin 15 ⊕ (Fin 15 ⊕ Fin 15)
def tokOf : Dev nD × TK → GSem nD τ sig × ℕ × Fin 15
  | (c, .inl t) => (kcell (c, ckB), 0, t)
  | (c, .inr k) => (kcell (c, .inr k), 0, 0)
theorem tokOf_injective : Function.Injective tokOf := by
  rintro ⟨c, j⟩ ⟨c', j'⟩ h
  rcases j with t | k <;> rcases j' with t' | k'
  · have h1 := congrArg Prod.fst (kcell_injective (congrArg Prod.fst h))
    have h2 : t = t' := congrArg (fun x : GSem nD τ sig × ℕ × Fin 15 => x.2.2) h
    rw [show c = c' from h1, h2]
  · exact absurd (congrArg Prod.snd (kcell_injective (congrArg Prod.fst h))) (by simp)
  · exact absurd (congrArg Prod.snd (kcell_injective (congrArg Prod.fst h))) (by simp)
  · have h1 := kcell_injective (congrArg Prod.fst h)
    rw [show c = c' from congrArg Prod.fst h1, Sum.inr_injective (congrArg Prod.snd h1)]
def meetToks : Finset (GSem nD τ sig × ℕ × Fin 15) := Finset.univ.map ⟨tokOf, tokOf_injective⟩

def u₀ : UU := (initOf (Pipeline.cells cfgs cellOf_inj) (Pipeline.launchToks cfgs cellOf_inj), (initOf meetCells meetToks, 1))

theorem u₀_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def toks (c : Dev nD) : sProp 𝕄 :=
  iprop(bigSep Finset.univ (fun t => dutyTok ER (barCell c) 0 t)
    ∗ bigSep Finset.univ (fun t => dutyTok ER (sendCell t c) 0 0) ∗ bigSep Finset.univ (fun t => dutyTok ER (recvCell t c) 0 0))

/-- What the launch deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
/-- What it has after the cells are opened. -/
def G' (c : Dev nD) : sProp 𝕄 := iprop(∃ K, records m K ∗ linear c)

theorem fund_meet : BI.own (ER (initOf meetCells meetToks)) ⊢ (|==> bigSep Finset.univ (G m) : sProp 𝕄) := by
  have hX (Φ : GSem nD τ sig → sProp 𝕄) : bigSep meetCells Φ = bigSep Finset.univ fun c : Dev nD => bigSep Finset.univ fun k : CK => Φ (kcell (c, k)) := by
    unfold meetCells; rw [bigSep_map, bigSep_univ_prod]; rfl
  have hT : bigSep meetToks (fun x => (dutyTok ER x.1 x.2.1 x.2.2 : sProp 𝕄)) = bigSep Finset.univ fun c : Dev nD => toks c := by
    unfold meetToks; rw [bigSep_map, bigSep_univ_prod]
    exact bigSep_congr fun c _ => by unfold toks; rw [bigSep_univ_sum, bigSep_univ_sum]; rfl
  iintro HX
  imod (Rounds.fund ER (Rd m) meetCells meetToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ (fun t => semVal (sendCell t c) 0) ∗ bigSep Finset.univ (fun t => semVal (recvCell t c) 0)) ∗ rest c) := by
  unfold Pipeline.ownSems0 rest; rw [bigSep_univ_sum, bigSep_univ_sum, bigSep_univ_sum]; rfl
theorem unscopedSems0_eq (c : Dev nD) : (unscopedSems0 c : sProp 𝕄) = semVal (barCell c) 0 := by
  unfold unscopedSems0; rw [bigSep_eq_bigSepL_of_eq [SemLoc.reg bSem] (by decide) (by decide)]; rfl

/-- Every meeting cell's semaphore, and those left over. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ rest c) : sProp 𝕄) := by
  rw [ownSems0_eq, unscopedSems0_eq, bigSep_CK]
  iintro ⟨⟨⟨HS, HV⟩, Hrest⟩, HB⟩
  isplitr [Hrest]
  · isplitl [HB]; · iexact HB
    isplitl [HS]; · iexact HS
    iexact HV
  iexact Hrest

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ rest c) := by
  unfold G
  iintro ⟨Hos, Hus, Hst, Hat, Htok⟩
  ihave Hv := (sems0_eq (F := F) c) $$ [Hos Hus]
  · isplitl [Hos] <;> iassumption
  icases Hv with ⟨Hv, Hrest⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- A family over steps and devices, each step's devices renamed. -/
theorem deal (e : Fin 15 → Dev nD ≃ Dev nD) (D : Fin 15 → Dev nD → sProp 𝕄) :
    (bigSep Finset.univ fun c => bigSep Finset.univ fun t => D t c) = bigSep Finset.univ fun c => bigSep Finset.univ fun t => D t (e t c) := by
  rw [bigSep_univ_comm, bigSep_univ_comm (fun c t => D t (e t c))]
  exact bigSep_congr fun t _ => bigSep_univ_equiv (e t) (D t)

/-- The tokens go to the devices that pay the duties. -/
theorem toks_around : (bigSep Finset.univ fun c : Dev nD => (toks c : sProp 𝕄)) = bigSep Finset.univ fun c : Dev nD => payToks c := by
  unfold toks payToks
  rw [bigSep_sep', bigSep_sep', bigSep_sep', bigSep_sep', deal (fun t => (shift t).symm) (fun t c => (dutyTok ER (barCell c) 0 t : sProp 𝕄)),
    deal shift (fun t c => (dutyTok ER (recvCell t c) 0 0 : sProp 𝕄))]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ rest c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok, Hrest⟩
  ihave HK := (BI.bigSep_exists_pi Finset.univ (fun (ck : Dev nD × CK) (κ : ℕ) => (cellInv ER (Rd m) κ (kcell ck) : sProp 𝕄))) $$ HI
  icases HK with ⟨%K, #HI⟩
  iapply (with_persistent (R := records m K) (Φ := linear) (Ψ := G' m) fun c _ => by
    unfold G'
    iintro ⟨HR, HL⟩
    iexists K
    isplitl [HR] <;> iassumption)
  isplitr
  · unfold records; isplitl; · iexact HI
    iexact HR
  · iapply (Entails.of_eq (show iprop((bigSep Finset.univ fun c : Dev nD => bigSep Finset.univ fun k : CK => (atPos ER (kcell (c, k)) 0 ∅ 0 : sProp 𝕄))
        ∗ (bigSep Finset.univ fun c : Dev nD => payToks c) ∗ bigSep Finset.univ fun c : Dev nD => rest c) = bigSep Finset.univ linear from by
          unfold linear; rw [bigSep_sep', bigSep_sep']))
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe one cell, when each owes one cell of a step's semaphore at a renamed device. -/
theorem owed_sum (e : Dev nD ≃ Dev nD) (sm sm' : SemLoc sig) (n : ℕ) (c : Dev nD) :
    ∑ d : Dev nD, tallyAt ((e d : Thread nD τ), sm) () n ((c : Thread nD τ), sm') () = if sm' = sm then n else 0 := by
  by_cases h : sm' = sm
  · subst h
    rw [if_pos rfl, Finset.sum_eq_single (e.symm c), tallyAt_apply, if_pos ⟨by rw [e.apply_symm_apply], rfl⟩]
    · intro d _ hd
      rw [tallyAt_apply, if_neg]
      rintro ⟨h1, _⟩
      have h2 : c = e d := congrArg (fun g : GSem nD τ sig => g.1.1) h1
      exact hd (by rw [h2, e.symm_apply_apply])
    · exact fun hn => absurd (Finset.mem_univ _) hn
  · rw [if_neg h]
    refine Finset.sum_eq_zero fun d _ => ?_
    rw [tallyAt_apply, if_neg]
    exact fun ⟨h1, _⟩ => h (congrArg Prod.snd h1)

theorem owedFrom_apply (f : Fin 15 → CellTallies nD τ sig Unit) (g : GSem nD τ sig) : owedFrom 0 f g () = ∑ t, f t g () := by
  unfold owedFrom; rw [todo_zero, Finset.sum_apply, Finsupp.finset_sum_apply]

theorem owed_total (c : Dev nD) (k : CK) :
    ∑ d, O₀ d (kcell (c, k)) () = (∑ t : Fin 15, if csem k = csem (ckR t) then N else 0) + ∑ t : Fin 15, if csem k = csem ckB then 1 else 0 := by
  have h (d : Dev nD) : O₀ d (kcell (c, k)) () = (∑ t, owedRecv d t (kcell (c, k)) ()) + ∑ t, owedBar d t (kcell (c, k)) () := by
    unfold O₀; rw [Pi.add_apply, Finsupp.add_apply, owedFrom_apply, owedFrom_apply]
  rw [Finset.sum_congr rfl fun d _ => h d, Finset.sum_add_distrib, Finset.sum_comm, Finset.sum_comm (f := fun d t => owedBar d t (kcell (c, k)) ())]
  refine congrArg₂ _ (Finset.sum_congr rfl fun t _ => ?_) (Finset.sum_congr rfl fun t _ => ?_)
  · unfold owedRecv; exact owed_sum (shift t) (csem (ckR t)) (csem k) N c
  · unfold owedBar; exact owed_sum (shift t).symm (csem ckB) (csem k) 1 c

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, show barCell c = kcell (c, ckB) from rfl, owed_total,
    Finset.sum_eq_zero fun t _ => if_neg (fun h => absurd (csem_injective (a₁ := ckB) (a₂ := ckR t) h) (by simp)), Nat.zero_add,
    Finset.sum_congr rfl fun t _ => if_pos rfl]
  rfl

theorem launch_recv (c : Dev nD) (t : Fin 15) :
    tallyOn (recvCell t c) (launchCredit (Pipeline.owing O₀) 0 (recvCell t c)) = (tallyAt (recvCell t c) () N : CellTallies nD τ sig Unit) := by
  unfold tallyAt; refine congrArg _ (Finsupp.ext fun u => ?_); cases u
  rw [Pipeline.launchCredit_owing, Finsupp.single_eq_same, show recvCell t c = kcell (c, ckR t) from rfl, owed_total,
    Finset.sum_eq_single t, if_pos rfl,
    Finset.sum_eq_zero fun t' _ => if_neg (fun h => absurd (csem_injective (a₁ := ckR t) (a₂ := ckB) h) (by simp)), Nat.add_zero]
  · exact fun t' _ ht => if_neg fun h => ht (Sum.inr_injective (Sum.inr_injective (csem_injective (a₁ := ckR t) (a₂ := ckR t') h))).symm
  · exact fun hn => absurd (Finset.mem_univ _) hn

theorem sems_meet (Φ : SemLoc sig → sProp 𝕄) :
    bigSep Finset.univ Φ ⊢ iprop(Φ (csem ckB) ∗ bigSep Finset.univ (fun t => Φ (csem (ckS t))) ∗ bigSep Finset.univ fun t => Φ (csem (ckR t))) :=
  (bigSep_subset (Finset.subset_univ (Finset.univ.map ⟨csem, csem_injective⟩))).trans
    (Entails.of_eq ((bigSep_map _).trans (bigSep_CK fun k => Φ (csem k))))

theorem creds (c : Dev nD) :
    (Pipeline.launchCred O₀ c : sProp 𝕄) ⊢ iprop(cred (tallyAt (barCell c) () 15) ∗ bigSep Finset.univ fun t => cred (tallyAt (recvCell t c) () N)) := by
  unfold Pipeline.launchCred
  refine (sems_meet _).trans ?_
  iintro ⟨H1, -, H2⟩
  isplitl [H1]
  · iapply (Entails.of_eq (congrArg (fun x => (cred x : sProp 𝕄)) (launch_bar c))); iexact H1
  · iapply (Entails.of_eq (bigSep_congr (s := Finset.univ) fun t _ => congrArg (fun x => (cred x : sProp 𝕄)) (launch_recv c t))); iexact H2

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  iintro ⟨Hw, Hlev, Hcr, -, HG⟩
  ihave Hc := (creds (F := F) c) $$ Hcr
  imodintro
  unfold start G' wWhole
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ bufs bufPts
  iintro ⟨Hs, -, Hr⟩
  isplitl [Hs] <;> iassumption

theorem phi1_exit (c : Dev nD) :
    (dats m 0 c).Φ (Fin.last cfg0.N) ⊢ iprop((unscopedSems0 c ∗ wWhole m c) ∗ Pipeline.ownSems0 osem c ∗ Pipeline.scopedRest cfg0.spec c) := by
  rw [show (dats m 0 c).Φ (Fin.last cfg0.N) = Φ₁ m c from rfl, show cfg0.spec = spec0 from rfl, scopedRest0_eq, ownSems0_eq, unscopedSems0_eq]
  exact .rfl

theorem waits (c : Dev nD) : (levAts L lv : sProp 𝕄) ⊢ Pipeline.cellsWaits cfgs (dats m) () 0 c :=
  Pipeline.cellsWaits_intro cfgs (dats m) () 0 c fun w s t =>
    mayWait_of c _ 0 (by fin_cases w <;> fin_cases s <;> rfl) (by
      rcases t with ⟨_ | _, ht⟩
      · exact above_O₀ c
      · exact fun g u h => absurd h (Nat.lt_irrefl 0))

/-- What a device ends with, read in the final memory. -/
theorem end_read (c : Dev nD) (s' : Phys nD τ sig (Elt F)) :
    iprop((unscopedSems0 c ∗ wWhole m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  unfold wWhole
  iintro ⟨⟨Hu, Hw⟩, -, HSI⟩
  icombine HSI Hw gives %hw
  ihave H := (Pipeline.unscopedSems0_read (X := unscopedSems0 c) (c := c) fupd_intro s') $$ [Hu HSI]
  · isplitl [Hu] <;> iassumption
  imod H with ⟨%hz, HSI⟩
  imodintro
  isplitr; · ipureintro; exact ⟨hz, funext fun i => hw i (Finset.mem_univ i)⟩
  iexact HSI

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

/-- Every fair run ends, each array at its final contents, `w` unchanged, every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (u₀_split _ _) $$ Hu
      icases H with ⟨HP, HX⟩
      imod (fund_meet m) $$ HX with HG
      imodintro
      isplitl [HP] <;> iassumption)
    (hglob := glob m)
    (hA := fun _ _ => rfl) (hpf := fun _ k => k.elim0)
    (X := start m) (Y := fun c => iprop(unscopedSems0 c ∗ wWhole m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := end_read m)
    (hQ := fun _ h hs => ⟨fun c => ⟨fun w => (h c).1 w, (h c).2.2.2⟩, sem_eq_zero hs fun c => (h c).2.2.1⟩)

/-- The array of `x` holds what it held. -/
theorem finalA_x (c : Dev nD) : finalA m c (0 : Fin 2) = m ((c : Thread nD τ).loc main_arg0) :=
  (dats (F := F) m 0 c).arrAt_in (0 : Fin 2) rfl _

end Cert.KernelIdeal

end
-- ==== Proof.Value.lean ====
/-
# What the kernel computes

Over the reals, a device's result is its columns of the product of the whole arrays.
-/
module

public import proofs.«01_k».proof.Proof.KernelIdealRun
public import Idealize.ShloMosaic.Lib.Pipeline.Value
public import Idealize.ShloMosaic.Lib.MatmulPlain
public import Idealize.ShloMosaic.Lib.StackMember
public import Idealize.ShloMosaic.Lib.Layout
public import Idealize.ShloMosaic.PureOps.Ideal

@[expose] public section

set_option maxRecDepth 16384

noncomputable section

namespace Cert.KernelIdeal

open Cert.KernelIdeal.Gen
open Idealize.ShloMosaic Idealize.ShloMosaic.TcCoe Idealize.ShloMosaic.ValueIdx
open Idealize.SL.Sem

section Arrays

variable {F : FTy → Type} [FloatOps F]
variable (m : (ℓ : Loc nD τ sig) → Buf (Elt F) ℓ)

/-! ## The arrays as the windows read them -/

/-- The block of `x` is the whole of a device's `x`. -/
theorem xstg_eq (c : Dev nD) : xstg m c = m ((c : Thread nD τ).loc main_arg0) :=
  Memref.read_access_unit_zero (Elt F) main_arg0 (funext fun a => by fin_cases a <;> rfl) (fun a => by fin_cases a <;> decide) _

/-- The result array ends holding what the body left in its buffer. -/
theorem finalA_o (c : Dev nD) : finalA m c (1 : Fin 2) = outAt m c := by
  have hr : (win0_1.blk (0 : Fin 1)).view.read (Elt F) (finalA m c (1 : Fin 2)) = finalA m c (1 : Fin 2) :=
    Memref.read_access_unit_zero (Elt F) main_v1 (funext fun a => by fin_cases a <;> rfl) (fun a => by fin_cases a <;> decide) _
  rw [← hr]
  unfold finalA
  rw [show cfg0.N = ((0 : Fin 1) : Fin cfg0.N).val + 1 from rfl, (dats m 0 c).arrAt_succ (1 : Fin 2) (0 : Fin 1),
    show (cfg0.win (1 : Fin 2)).flush (0 : Fin 1) = true from by decide, if_pos rfl]
  exact View.read_write_univ _ _

/-- A column of device `k` among all the columns. -/
def colIx (k : Dev nD) (j : Fin 512) : Fin 8192 := ⟨k.val * 512 + j.val, by have h : k.val < 16 := k.isLt; omega⟩

/-- An entry of the columns of `w` that belong to device `k`. -/
theorem wcol_apply (c k : Dev nD) (r : Fin 4096) (j : Fin 512) :
    wcol m c k (ix2 r j) = m ((c : Thread nD τ).loc main_arg1) (ix2 r (colIx k j)) := by
  unfold wcol
  rw [View.read_apply]
  refine congrArg (m ((c : Thread nD τ).loc main_arg1)) (funext fun a => Fin.ext ?_)
  fin_cases a
  · show 0 + 1 * r.val = r.val
    omega
  · show 512 * k.val + 1 * j.val = k.val * 512 + j.val
    omega

end Arrays

/-! ## The product over the reals -/

/-- One block's product as the kernel takes it. -/
def prod (x : Vec Ideal S256x4096 .f32) (w : Vec Ideal S4096x512 .f32) : Vec Ideal S256x512 .f32 :=
  matmul (F := Ideal) (φ₁ := .f32) (φ₂ := .f32) dot_S256x4096_S4096x512_S256x512_1_0_0_1_n_n none x w (constant S256x512 .f32 0x00000000#32)

/-- Its entries are sums of products. -/
theorem prod_apply (x : Vec Ideal S256x4096 .f32) (w : Vec Ideal S4096x512 .f32) (r : Fin 256) (j : Fin 512) :
    prod x w (ix2 r j) = ∑ k : Fin 4096, x (ix2 r k) * w (ix2 k j) := by
  have h := Ideal.matmul_plain_apply (M := 256) (K := 4096) (N := 512) (φ₁ := .f32) (φ₂ := .f32) none x w
    (constant (F := Ideal) S256x512 .f32 0x00000000#32) r j
  have h0 : constant (F := Ideal) S256x512 .f32 0x00000000#32 (ix2 r j) = (0 : EReal) := Ideal.ofBits_zero_f32
  rw [h0] at h
  exact h.trans (zero_add (∑ k : Fin 4096, (x (ix2 r k) * w (ix2 k j) : EReal)))

variable (m : (ℓ : Loc nD τ sig) → Buf (Elt Ideal) ℓ)

/-- The rows that come from device `e` are the product of its rows of `x` with the receiver's columns of `w`. -/
theorem rowsOf_eq (c e : Dev nD) : rowsOf m c e = prod (m ((e : Thread nD τ).loc main_arg0)) (wcol m e c) := by
  have hp : ∀ d k : Dev nD, k0_pay30 (xstg m d) (wld m d k) = prod (m ((d : Thread nD τ).loc main_arg0)) (wcol m d k) := by
    intro d k
    have hx : shapeCast S256x4096 (xstg m d) shapeCasts_S256x4096_S256x4096 = m ((d : Thread nD τ).loc main_arg0) :=
      (shapeCast_self _ _).trans (xstg_eq m d)
    have hw : shapeCast S4096x512 (wld m d k) shapeCasts_S1x4096x512_S4096x512 = wcol m d k := shapeCast_shapeCast _ _ _
    exact congrArg₂ prod hx hw
  unfold rowsOf
  split
  · next h => subst h; exact hp e e
  · have hb : shapeCast S1x256x512 (blk m e c) rfl = k0_pay29 (xstg m e) (wld m e c) := shapeCast_shapeCast _ _ _
    rw [hb, ← hp]
    exact shapeCast_shapeCast (k0_pay30 (xstg m e) (wld m e c)) shapeCasts_S256x512_S1x256x512 shapeCasts_S1x256x512_S256x512

/-- A device's result is its columns of the product of the whole arrays. -/
theorem outAt_eq (X : (⟨2, ![4096, 4096]⟩ : Shape).Idx → EReal) (W : (⟨2, ![4096, 8192]⟩ : Shape).Idx → EReal)
    (hx : ∀ e : Dev nD, m ((e : Thread nD τ).loc main_arg0) = Layout.block ⟨2, ![256, 4096]⟩ ⟨2, ![4096, 4096]⟩ 0 16 e X)
    (hw : ∀ e : Dev nD, m ((e : Thread nD τ).loc main_arg1) = W) (c : Dev nD) :
    outAt m c = Layout.block ⟨2, ![4096, 512]⟩ ⟨2, ![4096, 8192]⟩ 1 16 c
      (Host.dotGeneral (F := Ideal) (φ₁ := .f32) (φ₂ := .f32) (DotDims.plain 4096 4096 8192) none X W) := by
  funext i
  obtain ⟨r, j, rfl⟩ : ∃ (r : Fin 4096) (j : Fin 512), i = ix2 r j := ⟨i 0, i 1, funext fun a => by fin_cases a <;> rfl⟩
  have hr : r.val / 256 < nD := by have := r.isLt; simp [nD]; omega
  have hl : (Layout.block ⟨2, ![4096, 512]⟩ ⟨2, ![4096, 8192]⟩ 1 16 c
      (Host.dotGeneral (F := Ideal) (φ₁ := .f32) (φ₂ := .f32) (DotDims.plain 4096 4096 8192) none X W) :
        (⟨2, ![4096, 512]⟩ : Shape).Idx → EReal) (ix2 r j)
      = Host.dotGeneral (F := Ideal) (φ₁ := .f32) (φ₂ := .f32) (DotDims.plain 4096 4096 8192) none X W (ix2 r (colIx c j)) := by
    rw [Layout.block_apply]
    exact congrArg _ (funext fun a => by fin_cases a <;> rfl)
  rw [hl, StackMember.dotGeneral_plain_apply]
  show rowsOf m c ⟨r.val / 256, hr⟩ (ix2 ⟨r.val % 256, Nat.mod_lt _ (by decide)⟩ j) = _
  rw [rowsOf_eq, prod_apply]
  refine Finset.sum_congr rfl fun k _ => congrArg₂ (fun a b : EReal => a * b) ?_ ?_
  · rw [hx, Layout.block_apply]
    refine congrArg X (funext fun a => Fin.ext ?_)
    fin_cases a
    · show r.val / 256 * 256 + r.val % 256 = r.val
      omega
    · rfl
  · rw [wcol_apply, hw]

end Cert.KernelIdeal

end
-- ==== Proof.lean ====
/-
# The claims

The frames of the three programs, the idealization, and the equation over the reals.
-/
module

public import proofs.«01_k».proof.Defs
public import proofs.«01_k».proof.Proof.Gen.ReferenceIdeal.Run
public import proofs.«01_k».proof.Proof.KernelRun
public import proofs.«01_k».proof.Proof.Value
public import Idealize.ShloMosaic.Lib.Quiescent

@[expose] public section

noncomputable section

namespace Cert.Proof

open Idealize.ShloMosaic Idealize.SL.Sem

/-- The kernel runs, keeps its arguments and leaves every semaphore at zero. -/
theorem frame_kernel : Cert.quiescent_Kernel (hKernel := Cert.Kernel.Gen.facts) := fun m g _ =>
  (θ_run Cert.Kernel.defs _ _).mono
    (fun _ h => ⟨fun c => ⟨((h.1 c).1 (0 : Fin 2)).trans (Cert.Kernel.finalA_x m c), (h.1 c).2⟩, h.2⟩)
    (Cert.Kernel.run_main (F := Bits) m g)

/-- So does the kernel over the reals. -/
theorem frame_kernelIdeal : Cert.quiescent_KernelIdeal (hKernelIdeal := Cert.KernelIdeal.Gen.facts) := fun m g _ =>
  (θ_run Cert.KernelIdeal.defs _ _).mono
    (fun _ h => ⟨fun c => ⟨((h.1 c).1 (0 : Fin 2)).trans (Cert.KernelIdeal.finalA_x m c), (h.1 c).2⟩, h.2⟩)
    (Cert.KernelIdeal.run_main (F := Ideal) m g)

/-- So does the reference. -/
theorem frame_referenceIdeal : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- Every device's result is its columns of the reference's product. -/
theorem value : Cert.algebraic_KernelIdeal_ReferenceIdeal (hKernelIdeal := Cert.KernelIdeal.Gen.facts)
    (hReferenceIdeal := Cert.ReferenceIdeal.Gen.facts) := fun m g m' g' _ hm =>
  ⟨_, (θ_run Cert.KernelIdeal.defs _ _).mono
      (fun _ h c => ⟨((h.1 c).1 (1 : Fin 2)).trans ((Cert.KernelIdeal.finalA_o m c).trans
          (Cert.KernelIdeal.outAt_eq m _ _ (fun e => (hm e).1) (fun e => (hm e).2) c)),
        ((h.1 c).1 (0 : Fin 2)).trans (Cert.KernelIdeal.finalA_x m c), (h.1 c).2⟩)
      (Cert.KernelIdeal.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
